-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_grid_edges [hPre_grid_edges : Cert.Pre_grid_edges.Facts] (m : (ℓ : Loc Cert.KernelIdeal.nD Cert.KernelIdeal.τ Cert.KernelIdeal.sig) → Buf (Elt Ideal) ℓ) : Prop :=
  ∀ c : Dev Cert.KernelIdeal.nD,
    (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.2.2.2.1 = (fun _ => 1#1)
    ∧ (Cert.Pre_grid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grid_edges [hPre_grid_edges : Cert.Pre_grid_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.2.2.2.1 = (fun _ => 1#1)
    ∧ (Cert.Pre_grid_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_grid_edges [hKernelIdeal : Cert.KernelIdeal.Facts] [hPre_grid_edges : Cert.Pre_grid_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grid_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_grid_edges [hReferenceIdeal : Cert.ReferenceIdeal.Facts] [hPre_grid_edges : Cert.Pre_grid_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grid_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_grid_edges [hKernelIdeal : Cert.KernelIdeal.Facts] [hReferenceIdeal : Cert.ReferenceIdeal.Facts] [hPre_grid_edges : Cert.Pre_grid_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grid_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_grid_edges : Cert.Pre_grid_edges.Facts),
    quiescent_Kernel (hKernel := hKernel)
    ∧ quiescent_KernelIdeal (hKernelIdeal := hKernelIdeal)
    ∧ quiescent_KernelIdeal_pre_grid_edges (hKernelIdeal := hKernelIdeal) (hPre_grid_edges := hPre_grid_edges)
    ∧ quiescent_ReferenceIdeal (hReferenceIdeal := hReferenceIdeal)
    ∧ quiescent_ReferenceIdeal_pre_grid_edges (hReferenceIdeal := hReferenceIdeal) (hPre_grid_edges := hPre_grid_edges)
    ∧ preserves_Kernel_KernelIdeal
    ∧ algebraic_KernelIdeal_ReferenceIdeal_pre_grid_edges (hKernelIdeal := hKernelIdeal) (hReferenceIdeal := hReferenceIdeal) (hPre_grid_edges := hPre_grid_edges)
-- ==== Pre_grid_edges.lean ====
abbrev S4x128x128x128 : Shape := ⟨4, ![4, 128, 128, 128]⟩
abbrev S2x583696 : Shape := ⟨2, ![2, 583696]⟩
abbrev S128x128 : Shape := ⟨2, ![128, 128]⟩
abbrev S128 : Shape := ⟨1, ![128]⟩
abbrev S2x4x145924 : Shape := ⟨3, ![2, 4, 145924]⟩
abbrev S2x4x16129 : Shape := ⟨3, ![2, 4, 16129]⟩
abbrev S2x4x127x127 : Shape := ⟨4, ![2, 4, 127, 127]⟩
abbrev S4x127x127 : Shape := ⟨3, ![4, 127, 127]⟩
abbrev S_ : Shape := ⟨0, ![]⟩
abbrev S1x4x127x127 : Shape := ⟨4, ![1, 4, 127, 127]⟩
abbrev S2x4x16256 : Shape := ⟨3, ![2, 4, 16256]⟩
abbrev S2x4x127x128 : Shape := ⟨4, ![2, 4, 127, 128]⟩
abbrev S4x127x128 : Shape := ⟨3, ![4, 127, 128]⟩
abbrev S1x4x127x128 : Shape := ⟨4, ![1, 4, 127, 128]⟩
abbrev S2x4x128x127 : Shape := ⟨4, ![2, 4, 128, 127]⟩
abbrev S4x128x127 : Shape := ⟨3, ![4, 128, 127]⟩
abbrev S1x4x128x127 : Shape := ⟨4, ![1, 4, 128, 127]⟩
abbrev S2x4x16384 : Shape := ⟨3, ![2, 4, 16384]⟩
abbrev S2x4x128x128 : Shape := ⟨4, ![2, 4, 128, 128]⟩
abbrev S4x128x128 : Shape := ⟨3, ![4, 128, 128]⟩
abbrev S1x4x128x128 : Shape := ⟨4, ![1, 4, 128, 128]⟩

class Facts : Prop where
  shapeCasts_S2x583696_S2x4x145924 : S2x583696.ShapeCasts S2x4x145924
  slices_S2x4x145924_S2x4x16129_0_0_0 : S2x4x145924.Slices ![0, 0, 0] S2x4x16129
  shapeCasts_S2x4x16129_S2x4x127x127 : S2x4x16129.ShapeCasts S2x4x127x127
  bcast_S_S4x127x127 : S_.BroadcastsInDim S4x127x127 (![] : Fin 0 → Fin S4x127x127.rank)
  slices_S2x4x127x127_S1x4x127x127_0_0_0_0 : S2x4x127x127.Slices ![0, 0, 0, 0] S1x4x127x127
  shapeCasts_S1x4x127x127_S4x127x127 : S1x4x127x127.ShapeCasts S4x127x127
  slices_S2x4x127x127_S1x4x127x127_1_0_0_0 : S2x4x127x127.Slices ![1, 0, 0, 0] S1x4x127x127
  slices_S2x4x145924_S2x4x16256_0_0_16129 : S2x4x145924.Slices ![0, 0, 16129] S2x4x16256
  shapeCasts_S2x4x16256_S2x4x127x128 : S2x4x16256.ShapeCasts S2x4x127x128
  bcast_S_S4x127x128 : S_.BroadcastsInDim S4x127x128 (![] : Fin 0 → Fin S4x127x128.rank)
  slices_S2x4x127x128_S1x4x127x128_0_0_0_0 : S2x4x127x128.Slices ![0, 0, 0, 0] S1x4x127x128
  shapeCasts_S1x4x127x128_S4x127x128 : S1x4x127x128.ShapeCasts S4x127x128
  slices_S2x4x127x128_S1x4x127x128_1_0_0_0 : S2x4x127x128.Slices ![1, 0, 0, 0] S1x4x127x128
  slices_S2x4x145924_S2x4x16129_0_0_32385 : S2x4x145924.Slices ![0, 0, 32385] S2x4x16129
  slices_S2x4x145924_S2x4x16256_0_0_48514 : S2x4x145924.Slices ![0, 0, 48514] S2x4x16256
  shapeCasts_S2x4x16256_S2x4x128x127 : S2x4x16256.ShapeCasts S2x4x128x127
  bcast_S_S4x128x127 : S_.BroadcastsInDim S4x128x127 (![] : Fin 0 → Fin S4x128x127.rank)
  slices_S2x4x128x127_S1x4x128x127_0_0_0_0 : S2x4x128x127.Slices ![0, 0, 0, 0] S1x4x128x127
  shapeCasts_S1x4x128x127_S4x128x127 : S1x4x128x127.ShapeCasts S4x128x127
  slices_S2x4x128x127_S1x4x128x127_1_0_0_0 : S2x4x128x127.Slices ![1, 0, 0, 0] S1x4x128x127
  slices_S2x4x145924_S2x4x16384_0_0_64770 : S2x4x145924.Slices ![0, 0, 64770] S2x4x16384
  shapeCasts_S2x4x16384_S2x4x128x128 : S2x4x16384.ShapeCasts S2x4x128x128
  bcast_S_S4x128x128 : S_.BroadcastsInDim S4x128x128 (![] : Fin 0 → Fin S4x128x128.rank)
  slices_S2x4x128x128_S1x4x128x128_0_0_0_0 : S2x4x128x128.Slices ![0, 0, 0, 0] S1x4x128x128
  shapeCasts_S1x4x128x128_S4x128x128 : S1x4x128x128.ShapeCasts S4x128x128
  slices_S2x4x128x128_S1x4x128x128_1_0_0_0 : S2x4x128x128.Slices ![1, 0, 0, 0] S1x4x128x128
  slices_S2x4x145924_S2x4x16256_0_0_81154 : S2x4x145924.Slices ![0, 0, 81154] S2x4x16256
  slices_S2x4x145924_S2x4x16129_0_0_97410 : S2x4x145924.Slices ![0, 0, 97410] S2x4x16129
  slices_S2x4x145924_S2x4x16256_0_0_113539 : S2x4x145924.Slices ![0, 0, 113539] S2x4x16256
  slices_S2x4x145924_S2x4x16129_0_0_129795 : S2x4x145924.Slices ![0, 0, 129795] S2x4x16129

variable [Facts]

def fn_part9 {F : FTy → Type} [FloatOps F] (main_v16 : IVec S4x127x127 1) (main_v21 : IVec S4x127x127 1) (main_v37 : IVec S4x127x128 1) (main_v42 : IVec S4x127x128 1) (main_v58 : IVec S4x127x127 1) (main_v63 : IVec S4x127x127 1) (main_v79 : IVec S4x128x127 1) (main_v84 : IVec S4x128x127 1) (main_v100 : IVec S4x128x128 1) (main_v105 : IVec S4x128x128 1) (main_v121 : IVec S4x128x127 1) (main_v126 : IVec S4x128x127 1) (main_v142 : IVec S4x127x127 1) (main_v147 : IVec S4x127x127 1) (main_v163 : IVec S4x127x128 1) (main_v168 : IVec S4x127x128 1) (main_v170 : IVec S2x4x127x127 32) (main_v179 : IVec S4x127x127 32) (main_v181 : IVec S4x127x127 32) : IVec S4x127x127 1 × IVec S4x127x127 1 × IVec S4x127x128 1 × IVec S4x127x128 1 × IVec S4x127x127 1 × IVec S4x127x127 1 × IVec S4x128x127 1 × IVec S4x128x127 1 × IVec S4x128x128 1 × IVec S4x128x128 1 × IVec S4x128x127 1 × IVec S4x128x127 1 × IVec S4x127x127 1 × IVec S4x127x127 1 × IVec S4x127x128 1 × IVec S4x127x128 1 × IVec S4x127x127 1 × IVec S4x127x127 1 :=
  let main_c_33 : IVec S_ 32 := constantI S_ 32 0#32
  let main_v182 : IVec S4x127x127 32 := broadcastInDim S4x127x127 ![] bcast_S_S4x127x127 main_c_33
  let main_v183 : IVec S4x127x127 32 := addi main_v179 main_v182
  let main_v184 : IVec S4x127x127 1 := cmpi .eq main_v181 main_v183
  let main_v185 : IVec S1x4x127x127 32 := (extractStridedSlice S1x4x127x127 ![1, 0, 0, 0] · slices_S2x4x127x127_S1x4x127x127_1_0_0_0) main_v170
  let main_v186 : IVec S4x127x127 32 := shapeCast S4x127x127 main_v185 shapeCasts_S1x4x127x127_S4x127x127
  let main_c_34 : IVec S_ 32 := constantI S_ 32 129#32
  let main_v187 : IVec S4x127x127 32 := broadcastInDim S4x127x127 ![] bcast_S_S4x127x127 main_c_34
  let main_v188 : IVec S4x127x127 32 := addi main_v179 main_v187
  let main_v189 : IVec S4x127x127 1 := cmpi .eq main_v186 main_v188
  (main_v16, main_v21, main_v37, main_v42, main_v58, main_v63, main_v79, main_v84, main_v100, main_v105, main_v121, main_v126, main_v142, main_v147, main_v163, main_v168, main_v184, main_v189)

def fn_part8 {F : FTy → Type} [FloatOps F] (main_v0 : IVec S2x4x145924 32) (main_v16 : IVec S4x127x127 1) (main_v21 : IVec S4x127x127 1) (main_v37 : IVec S4x127x128 1) (main_v42 : IVec S4x127x128 1) (main_v58 : IVec S4x127x127 1) (main_v63 : IVec S4x127x127 1) (main_v79 : IVec S4x128x127 1) (main_v84 : IVec S4x128x127 1) (main_v100 : IVec S4x128x128 1) (main_v105 : IVec S4x128x128 1) (main_v121 : IVec S4x128x127 1) (main_v126 : IVec S4x128x127 1) (main_v142 : IVec S4x127x127 1) (main_v147 : IVec S4x127x127 1) (main_v149 : IVec S2x4x127x128 32) (main_v158 : IVec S4x127x128 32) (main_v160 : IVec S4x127x128 32) (main_c_29 : IVec S_ 32) : IVec S4x127x127 1 × IVec S4x127x127 1 × IVec S4x127x128 1 × IVec S4x127x128 1 × IVec S4x127x127 1 × IVec S4x127x127 1 × IVec S4x128x127 1 × IVec S4x128x127 1 × IVec S4x128x128 1 × IVec S4x128x128 1 × IVec S4x128x127 1 × IVec S4x128x127 1 × IVec S4x127x127 1 × IVec S4x127x127 1 × IVec S4x127x128 1 × IVec S4x127x128 1 × IVec S4x127x127 1 × IVec S4x127x127 1 :=
  let main_v161 : IVec S4x127x128 32 := broadcastInDim S4x127x128 ![] bcast_S_S4x127x128 main_c_29
  let main_v162 : IVec S4x127x128 32 := addi main_v158 main_v161
  let main_v163 : IVec S4x127x128 1 := cmpi .eq main_v160 main_v162
  let main_v164 : IVec S1x4x127x128 32 := (extractStridedSlice S1x4x127x128 ![1, 0, 0, 0] · slices_S2x4x127x128_S1x4x127x128_1_0_0_0) main_v149
  let main_v165 : IVec S4x127x128 32 := shapeCast S4x127x128 main_v164 shapeCasts_S1x4x127x128_S4x127x128
  let main_c_30 : IVec S_ 32 := constantI S_ 32 128#32
  let main_v166 : IVec S4x127x128 32 := broadcastInDim S4x127x128 ![] bcast_S_S4x127x128 main_c_30
  let main_v167 : IVec S4x127x128 32 := addi main_v158 main_v166
  let main_v168 : IVec S4x127x128 1 := cmpi .eq main_v165 main_v167
  let main_v169 : IVec S2x4x16129 32 := (extractStridedSlice S2x4x16129 ![0, 0, 129795] · slices_S2x4x145924_S2x4x16129_0_0_129795) main_v0
  let main_v170 : IVec S2x4x127x127 32 := shapeCast S2x4x127x127 main_v169 shapeCasts_S2x4x16129_S2x4x127x127
  let main_v171 : IVec S4x127x127 32 := iotaInDim S4x127x127 32 0
  let main_v172 : IVec S4x127x127 32 := iotaInDim S4x127x127 32 1
  let main_v173 : IVec S4x127x127 32 := iotaInDim S4x127x127 32 2
  let main_c_31 : IVec S_ 32 := constantI S_ 32 16384#32
  let main_v174 : IVec S4x127x127 32 := broadcastInDim S4x127x127 ![] bcast_S_S4x127x127 main_c_31
  let main_v175 : IVec S4x127x127 32 := muli main_v171 main_v174
  let main_c_32 : IVec S_ 32 := constantI S_ 32 128#32
  let main_v176 : IVec S4x127x127 32 := broadcastInDim S4x127x127 ![] bcast_S_S4x127x127 main_c_32
  let main_v177 : IVec S4x127x127 32 := muli main_v172 main_v176
  let main_v178 : IVec S4x127x127 32 := addi main_v175 main_v177
  let main_v179 : IVec S4x127x127 32 := addi main_v178 main_v173
  let main_v180 : IVec S1x4x127x127 32 := (extractStridedSlice S1x4x127x127 ![0, 0, 0, 0] · slices_S2x4x127x127_S1x4x127x127_0_0_0_0) main_v170
  let main_v181 : IVec S4x127x127 32 := shapeCast S4x127x127 main_v180 shapeCasts_S1x4x127x127_S4x127x127
  fn_part9 (F := F) main_v16 main_v21 main_v37 main_v42 main_v58 main_v63 main_v79 main_v84 main_v100 main_v105 main_v121 main_v126 main_v142 main_v147 main_v163 main_v168 main_v170 main_v179 main_v181

def fn_part7 {F : FTy → Type} [FloatOps F] (main_v0 : IVec S2x4x145924 32) (main_v16 : IVec S4x127x127 1) (main_v21 : IVec S4x127x127 1) (main_v37 : IVec S4x127x128 1) (main_v42 : IVec S4x127x128 1) (main_v58 : IVec S4x127x127 1) (main_v63 : IVec S4x127x127 1) (main_v79 : IVec S4x128x127 1) (main_v84 : IVec S4x128x127 1) (main_v100 : IVec S4x128x128 1) (main_v105 : IVec S4x128x128 1) (main_v121 : IVec S4x128x127 1) (main_v126 : IVec S4x128x127 1) (main_v128 : IVec S2x4x127x127 32) (main_v137 : IVec S4x127x127 32) (main_v139 : IVec S4x127x127 32) (main_v140 : IVec S4x127x127 32) : IVec S4x127x127 1 × IVec S4x127x127 1 × IVec S4x127x128 1 × IVec S4x127x128 1 × IVec S4x127x127 1 × IVec S4x127x127 1 × IVec S4x128x127 1 × IVec S4x128x127 1 × IVec S4x128x128 1 × IVec S4x128x128 1 × IVec S4x128x127 1 × IVec S4x128x127 1 × IVec S4x127x127 1 × IVec S4x127x127 1 × IVec S4x127x128 1 × IVec S4x127x128 1 × IVec S4x127x127 1 × IVec S4x127x127 1 :=
  let main_v141 : IVec S4x127x127 32 := addi main_v137 main_v140
  let main_v142 : IVec S4x127x127 1 := cmpi .eq main_v139 main_v141
  let main_v143 : IVec S1x4x127x127 32 := (extractStridedSlice S1x4x127x127 ![1, 0, 0, 0] · slices_S2x4x127x127_S1x4x127x127_1_0_0_0) main_v128
  let main_v144 : IVec S4x127x127 32 := shapeCast S4x127x127 main_v143 shapeCasts_S1x4x127x127_S4x127x127
  let main_c_26 : IVec S_ 32 := constantI S_ 32 128#32
  let main_v145 : IVec S4x127x127 32 := broadcastInDim S4x127x127 ![] bcast_S_S4x127x127 main_c_26
  let main_v146 : IVec S4x127x127 32 := addi main_v137 main_v145
  let main_v147 : IVec S4x127x127 1 := cmpi .eq main_v144 main_v146
  let main_v148 : IVec S2x4x16256 32 := (extractStridedSlice S2x4x16256 ![0, 0, 113539] · slices_S2x4x145924_S2x4x16256_0_0_113539) main_v0
  let main_v149 : IVec S2x4x127x128 32 := shapeCast S2x4x127x128 main_v148 shapeCasts_S2x4x16256_S2x4x127x128
  let main_v150 : IVec S4x127x128 32 := iotaInDim S4x127x128 32 0
  let main_v151 : IVec S4x127x128 32 := iotaInDim S4x127x128 32 1
  let main_v152 : IVec S4x127x128 32 := iotaInDim S4x127x128 32 2
  let main_c_27 : IVec S_ 32 := constantI S_ 32 16384#32
  let main_v153 : IVec S4x127x128 32 := broadcastInDim S4x127x128 ![] bcast_S_S4x127x128 main_c_27
  let main_v154 : IVec S4x127x128 32 := muli main_v150 main_v153
  let main_c_28 : IVec S_ 32 := constantI S_ 32 128#32
  let main_v155 : IVec S4x127x128 32 := broadcastInDim S4x127x128 ![] bcast_S_S4x127x128 main_c_28
  let main_v156 : IVec S4x127x128 32 := muli main_v151 main_v155
  let main_v157 : IVec S4x127x128 32 := addi main_v154 main_v156
  let main_v158 : IVec S4x127x128 32 := addi main_v157 main_v152
  let main_v159 : IVec S1x4x127x128 32 := (extractStridedSlice S1x4x127x128 ![0, 0, 0, 0] · slices_S2x4x127x128_S1x4x127x128_0_0_0_0) main_v149
  let main_v160 : IVec S4x127x128 32 := shapeCast S4x127x128 main_v159 shapeCasts_S1x4x127x128_S4x127x128
  let main_c_29 : IVec S_ 32 := constantI S_ 32 0#32
  fn_part8 (F := F) main_v0 main_v16 main_v21 main_v37 main_v42 main_v58 main_v63 main_v79 main_v84 main_v100 main_v105 main_v121 main_v126 main_v142 main_v147 main_v149 main_v158 main_v160 main_c_29

def fn_part6 {F : FTy → Type} [FloatOps F] (main_v0 : IVec S2x4x145924 32) (main_v16 : IVec S4x127x127 1) (main_v21 : IVec S4x127x127 1) (main_v37 : IVec S4x127x128 1) (main_v42 : IVec S4x127x128 1) (main_v58 : IVec S4x127x127 1) (main_v63 : IVec S4x127x127 1) (main_v79 : IVec S4x128x127 1) (main_v84 : IVec S4x128x127 1) (main_v100 : IVec S4x128x128 1) (main_v105 : IVec S4x128x128 1) (main_v107 : IVec S2x4x128x127 32) (main_v116 : IVec S4x128x127 32) (main_v118 : IVec S4x128x127 32) (main_v120 : IVec S4x128x127 32) : IVec S4x127x127 1 × IVec S4x127x127 1 × IVec S4x127x128 1 × IVec S4x127x128 1 × IVec S4x127x127 1 × IVec S4x127x127 1 × IVec S4x128x127 1 × IVec S4x128x127 1 × IVec S4x128x128 1 × IVec S4x128x128 1 × IVec S4x128x127 1 × IVec S4x128x127 1 × IVec S4x127x127 1 × IVec S4x127x127 1 × IVec S4x127x128 1 × IVec S4x127x128 1 × IVec S4x127x127 1 × IVec S4x127x127 1 :=
  let main_v121 : IVec S4x128x127 1 := cmpi .eq main_v118 main_v120
  let main_v122 : IVec S1x4x128x127 32 := (extractStridedSlice S1x4x128x127 ![1, 0, 0, 0] · slices_S2x4x128x127_S1x4x128x127_1_0_0_0) main_v107
  let main_v123 : IVec S4x128x127 32 := shapeCast S4x128x127 main_v122 shapeCasts_S1x4x128x127_S4x128x127
  let main_c_22 : IVec S_ 32 := constantI S_ 32 1#32
  let main_v124 : IVec S4x128x127 32 := broadcastInDim S4x128x127 ![] bcast_S_S4x128x127 main_c_22
  let main_v125 : IVec S4x128x127 32 := addi main_v116 main_v124
  let main_v126 : IVec S4x128x127 1 := cmpi .eq main_v123 main_v125
  let main_v127 : IVec S2x4x16129 32 := (extractStridedSlice S2x4x16129 ![0, 0, 97410] · slices_S2x4x145924_S2x4x16129_0_0_97410) main_v0
  let main_v128 : IVec S2x4x127x127 32 := shapeCast S2x4x127x127 main_v127 shapeCasts_S2x4x16129_S2x4x127x127
  let main_v129 : IVec S4x127x127 32 := iotaInDim S4x127x127 32 0
  let main_v130 : IVec S4x127x127 32 := iotaInDim S4x127x127 32 1
  let main_v131 : IVec S4x127x127 32 := iotaInDim S4x127x127 32 2
  let main_c_23 : IVec S_ 32 := constantI S_ 32 16384#32
  let main_v132 : IVec S4x127x127 32 := broadcastInDim S4x127x127 ![] bcast_S_S4x127x127 main_c_23
  let main_v133 : IVec S4x127x127 32 := muli main_v129 main_v132
  let main_c_24 : IVec S_ 32 := constantI S_ 32 128#32
  let main_v134 : IVec S4x127x127 32 := broadcastInDim S4x127x127 ![] bcast_S_S4x127x127 main_c_24
  let main_v135 : IVec S4x127x127 32 := muli main_v130 main_v134
  let main_v136 : IVec S4x127x127 32 := addi main_v133 main_v135
  let main_v137 : IVec S4x127x127 32 := addi main_v136 main_v131
  let main_v138 : IVec S1x4x127x127 32 := (extractStridedSlice S1x4x127x127 ![0, 0, 0, 0] · slices_S2x4x127x127_S1x4x127x127_0_0_0_0) main_v128
  let main_v139 : IVec S4x127x127 32 := shapeCast S4x127x127 main_v138 shapeCasts_S1x4x127x127_S4x127x127
  let main_c_25 : IVec S_ 32 := constantI S_ 32 1#32
  let main_v140 : IVec S4x127x127 32 := broadcastInDim S4x127x127 ![] bcast_S_S4x127x127 main_c_25
  fn_part7 (F := F) main_v0 main_v16 main_v21 main_v37 main_v42 main_v58 main_v63 main_v79 main_v84 main_v100 main_v105 main_v121 main_v126 main_v128 main_v137 main_v139 main_v140

def fn_part5 {F : FTy → Type} [FloatOps F] (main_v0 : IVec S2x4x145924 32) (main_v16 : IVec S4x127x127 1) (main_v21 : IVec S4x127x127 1) (main_v37 : IVec S4x127x128 1) (main_v42 : IVec S4x127x128 1) (main_v58 : IVec S4x127x127 1) (main_v63 : IVec S4x127x127 1) (main_v79 : IVec S4x128x127 1) (main_v84 : IVec S4x128x127 1) (main_v86 : IVec S2x4x128x128 32) (main_v95 : IVec S4x128x128 32) (main_v100 : IVec S4x128x128 1) : IVec S4x127x127 1 × IVec S4x127x127 1 × IVec S4x127x128 1 × IVec S4x127x128 1 × IVec S4x127x127 1 × IVec S4x127x127 1 × IVec S4x128x127 1 × IVec S4x128x127 1 × IVec S4x128x128 1 × IVec S4x128x128 1 × IVec S4x128x127 1 × IVec S4x128x127 1 × IVec S4x127x127 1 × IVec S4x127x127 1 × IVec S4x127x128 1 × IVec S4x127x128 1 × IVec S4x127x127 1 × IVec S4x127x127 1 :=
  let main_v101 : IVec S1x4x128x128 32 := (extractStridedSlice S1x4x128x128 ![1, 0, 0, 0] · slices_S2x4x128x128_S1x4x128x128_1_0_0_0) main_v86
  let main_v102 : IVec S4x128x128 32 := shapeCast S4x128x128 main_v101 shapeCasts_S1x4x128x128_S4x128x128
  let main_c_18 : IVec S_ 32 := constantI S_ 32 0#32
  let main_v103 : IVec S4x128x128 32 := broadcastInDim S4x128x128 ![] bcast_S_S4x128x128 main_c_18
  let main_v104 : IVec S4x128x128 32 := addi main_v95 main_v103
  let main_v105 : IVec S4x128x128 1 := cmpi .eq main_v102 main_v104
  let main_v106 : IVec S2x4x16256 32 := (extractStridedSlice S2x4x16256 ![0, 0, 81154] · slices_S2x4x145924_S2x4x16256_0_0_81154) main_v0
  let main_v107 : IVec S2x4x128x127 32 := shapeCast S2x4x128x127 main_v106 shapeCasts_S2x4x16256_S2x4x128x127
  let main_v108 : IVec S4x128x127 32 := iotaInDim S4x128x127 32 0
  let main_v109 : IVec S4x128x127 32 := iotaInDim S4x128x127 32 1
  let main_v110 : IVec S4x128x127 32 := iotaInDim S4x128x127 32 2
  let main_c_19 : IVec S_ 32 := constantI S_ 32 16384#32
  let main_v111 : IVec S4x128x127 32 := broadcastInDim S4x128x127 ![] bcast_S_S4x128x127 main_c_19
  let main_v112 : IVec S4x128x127 32 := muli main_v108 main_v111
  let main_c_20 : IVec S_ 32 := constantI S_ 32 128#32
  let main_v113 : IVec S4x128x127 32 := broadcastInDim S4x128x127 ![] bcast_S_S4x128x127 main_c_20
  let main_v114 : IVec S4x128x127 32 := muli main_v109 main_v113
  let main_v115 : IVec S4x128x127 32 := addi main_v112 main_v114
  let main_v116 : IVec S4x128x127 32 := addi main_v115 main_v110
  let main_v117 : IVec S1x4x128x127 32 := (extractStridedSlice S1x4x128x127 ![0, 0, 0, 0] · slices_S2x4x128x127_S1x4x128x127_0_0_0_0) main_v107
  let main_v118 : IVec S4x128x127 32 := shapeCast S4x128x127 main_v117 shapeCasts_S1x4x128x127_S4x128x127
  let main_c_21 : IVec S_ 32 := constantI S_ 32 0#32
  let main_v119 : IVec S4x128x127 32 := broadcastInDim S4x128x127 ![] bcast_S_S4x128x127 main_c_21
  let main_v120 : IVec S4x128x127 32 := addi main_v116 main_v119
  fn_part6 (F := F) main_v0 main_v16 main_v21 main_v37 main_v42 main_v58 main_v63 main_v79 main_v84 main_v100 main_v105 main_v107 main_v116 main_v118 main_v120

def fn_part4 {F : FTy → Type} [FloatOps F] (main_v0 : IVec S2x4x145924 32) (main_v16 : IVec S4x127x127 1) (main_v21 : IVec S4x127x127 1) (main_v37 : IVec S4x127x128 1) (main_v42 : IVec S4x127x128 1) (main_v58 : IVec S4x127x127 1) (main_v63 : IVec S4x127x127 1) (main_v74 : IVec S4x128x127 32) (main_v79 : IVec S4x128x127 1) (main_v80 : IVec S1x4x128x127 32) : IVec S4x127x127 1 × IVec S4x127x127 1 × IVec S4x127x128 1 × IVec S4x127x128 1 × IVec S4x127x127 1 × IVec S4x127x127 1 × IVec S4x128x127 1 × IVec S4x128x127 1 × IVec S4x128x128 1 × IVec S4x128x128 1 × IVec S4x128x127 1 × IVec S4x128x127 1 × IVec S4x127x127 1 × IVec S4x127x127 1 × IVec S4x127x128 1 × IVec S4x127x128 1 × IVec S4x127x127 1 × IVec S4x127x127 1 :=
  let main_v81 : IVec S4x128x127 32 := shapeCast S4x128x127 main_v80 shapeCasts_S1x4x128x127_S4x128x127
  let main_c_14 : IVec S_ 32 := constantI S_ 32 0#32
  let main_v82 : IVec S4x128x127 32 := broadcastInDim S4x128x127 ![] bcast_S_S4x128x127 main_c_14
  let main_v83 : IVec S4x128x127 32 := addi main_v74 main_v82
  let main_v84 : IVec S4x128x127 1 := cmpi .eq main_v81 main_v83
  let main_v85 : IVec S2x4x16384 32 := (extractStridedSlice S2x4x16384 ![0, 0, 64770] · slices_S2x4x145924_S2x4x16384_0_0_64770) main_v0
  let main_v86 : IVec S2x4x128x128 32 := shapeCast S2x4x128x128 main_v85 shapeCasts_S2x4x16384_S2x4x128x128
  let main_v87 : IVec S4x128x128 32 := iotaInDim S4x128x128 32 0
  let main_v88 : IVec S4x128x128 32 := iotaInDim S4x128x128 32 1
  let main_v89 : IVec S4x128x128 32 := iotaInDim S4x128x128 32 2
  let main_c_15 : IVec S_ 32 := constantI S_ 32 16384#32
  let main_v90 : IVec S4x128x128 32 := broadcastInDim S4x128x128 ![] bcast_S_S4x128x128 main_c_15
  let main_v91 : IVec S4x128x128 32 := muli main_v87 main_v90
  let main_c_16 : IVec S_ 32 := constantI S_ 32 128#32
  let main_v92 : IVec S4x128x128 32 := broadcastInDim S4x128x128 ![] bcast_S_S4x128x128 main_c_16
  let main_v93 : IVec S4x128x128 32 := muli main_v88 main_v92
  let main_v94 : IVec S4x128x128 32 := addi main_v91 main_v93
  let main_v95 : IVec S4x128x128 32 := addi main_v94 main_v89
  let main_v96 : IVec S1x4x128x128 32 := (extractStridedSlice S1x4x128x128 ![0, 0, 0, 0] · slices_S2x4x128x128_S1x4x128x128_0_0_0_0) main_v86
  let main_v97 : IVec S4x128x128 32 := shapeCast S4x128x128 main_v96 shapeCasts_S1x4x128x128_S4x128x128
  let main_c_17 : IVec S_ 32 := constantI S_ 32 0#32
  let main_v98 : IVec S4x128x128 32 := broadcastInDim S4x128x128 ![] bcast_S_S4x128x128 main_c_17
  let main_v99 : IVec S4x128x128 32 := addi main_v95 main_v98
  let main_v100 : IVec S4x128x128 1 := cmpi .eq main_v97 main_v99
  fn_part5 (F := F) main_v0 main_v16 main_v21 main_v37 main_v42 main_v58 main_v63 main_v79 main_v84 main_v86 main_v95 main_v100

def fn_part3 {F : FTy → Type} [FloatOps F] (main_v0 : IVec S2x4x145924 32) (main_v16 : IVec S4x127x127 1) (main_v21 : IVec S4x127x127 1) (main_v37 : IVec S4x127x128 1) (main_v42 : IVec S4x127x128 1) (main_v53 : IVec S4x127x127 32) (main_v58 : IVec S4x127x127 1) (main_v60 : IVec S4x127x127 32) : IVec S4x127x127 1 × IVec S4x127x127 1 × IVec S4x127x128 1 × IVec S4x127x128 1 × IVec S4x127x127 1 × IVec S4x127x127 1 × IVec S4x128x127 1 × IVec S4x128x127 1 × IVec S4x128x128 1 × IVec S4x128x128 1 × IVec S4x128x127 1 × IVec S4x128x127 1 × IVec S4x127x127 1 × IVec S4x127x127 1 × IVec S4x127x128 1 × IVec S4x127x128 1 × IVec S4x127x127 1 × IVec S4x127x127 1 :=
  let main_c_10 : IVec S_ 32 := constantI S_ 32 1#32
  let main_v61 : IVec S4x127x127 32 := broadcastInDim S4x127x127 ![] bcast_S_S4x127x127 main_c_10
  let main_v62 : IVec S4x127x127 32 := addi main_v53 main_v61
  let main_v63 : IVec S4x127x127 1 := cmpi .eq main_v60 main_v62
  let main_v64 : IVec S2x4x16256 32 := (extractStridedSlice S2x4x16256 ![0, 0, 48514] · slices_S2x4x145924_S2x4x16256_0_0_48514) main_v0
  let main_v65 : IVec S2x4x128x127 32 := shapeCast S2x4x128x127 main_v64 shapeCasts_S2x4x16256_S2x4x128x127
  let main_v66 : IVec S4x128x127 32 := iotaInDim S4x128x127 32 0
  let main_v67 : IVec S4x128x127 32 := iotaInDim S4x128x127 32 1
  let main_v68 : IVec S4x128x127 32 := iotaInDim S4x128x127 32 2
  let main_c_11 : IVec S_ 32 := constantI S_ 32 16384#32
  let main_v69 : IVec S4x128x127 32 := broadcastInDim S4x128x127 ![] bcast_S_S4x128x127 main_c_11
  let main_v70 : IVec S4x128x127 32 := muli main_v66 main_v69
  let main_c_12 : IVec S_ 32 := constantI S_ 32 128#32
  let main_v71 : IVec S4x128x127 32 := broadcastInDim S4x128x127 ![] bcast_S_S4x128x127 main_c_12
  let main_v72 : IVec S4x128x127 32 := muli main_v67 main_v71
  let main_v73 : IVec S4x128x127 32 := addi main_v70 main_v72
  let main_v74 : IVec S4x128x127 32 := addi main_v73 main_v68
  let main_v75 : IVec S1x4x128x127 32 := (extractStridedSlice S1x4x128x127 ![0, 0, 0, 0] · slices_S2x4x128x127_S1x4x128x127_0_0_0_0) main_v65
  let main_v76 : IVec S4x128x127 32 := shapeCast S4x128x127 main_v75 shapeCasts_S1x4x128x127_S4x128x127
  let main_c_13 : IVec S_ 32 := constantI S_ 32 1#32
  let main_v77 : IVec S4x128x127 32 := broadcastInDim S4x128x127 ![] bcast_S_S4x128x127 main_c_13
  let main_v78 : IVec S4x128x127 32 := addi main_v74 main_v77
  let main_v79 : IVec S4x128x127 1 := cmpi .eq main_v76 main_v78
  let main_v80 : IVec S1x4x128x127 32 := (extractStridedSlice S1x4x128x127 ![1, 0, 0, 0] · slices_S2x4x128x127_S1x4x128x127_1_0_0_0) main_v65
  fn_part4 (F := F) main_v0 main_v16 main_v21 main_v37 main_v42 main_v58 main_v63 main_v74 main_v79 main_v80

def fn_part2 {F : FTy → Type} [FloatOps F] (main_v0 : IVec S2x4x145924 32) (main_v16 : IVec S4x127x127 1) (main_v21 : IVec S4x127x127 1) (main_v32 : IVec S4x127x128 32) (main_v37 : IVec S4x127x128 1) (main_v39 : IVec S4x127x128 32) (main_c_6 : IVec S_ 32) : IVec S4x127x127 1 × IVec S4x127x127 1 × IVec S4x127x128 1 × IVec S4x127x128 1 × IVec S4x127x127 1 × IVec S4x127x127 1 × IVec S4x128x127 1 × IVec S4x128x127 1 × IVec S4x128x128 1 × IVec S4x128x128 1 × IVec S4x128x127 1 × IVec S4x128x127 1 × IVec S4x127x127 1 × IVec S4x127x127 1 × IVec S4x127x128 1 × IVec S4x127x128 1 × IVec S4x127x127 1 × IVec S4x127x127 1 :=
  let main_v40 : IVec S4x127x128 32 := broadcastInDim S4x127x128 ![] bcast_S_S4x127x128 main_c_6
  let main_v41 : IVec S4x127x128 32 := addi main_v32 main_v40
  let main_v42 : IVec S4x127x128 1 := cmpi .eq main_v39 main_v41
  let main_v43 : IVec S2x4x16129 32 := (extractStridedSlice S2x4x16129 ![0, 0, 32385] · slices_S2x4x145924_S2x4x16129_0_0_32385) main_v0
  let main_v44 : IVec S2x4x127x127 32 := shapeCast S2x4x127x127 main_v43 shapeCasts_S2x4x16129_S2x4x127x127
  let main_v45 : IVec S4x127x127 32 := iotaInDim S4x127x127 32 0
  let main_v46 : IVec S4x127x127 32 := iotaInDim S4x127x127 32 1
  let main_v47 : IVec S4x127x127 32 := iotaInDim S4x127x127 32 2
  let main_c_7 : IVec S_ 32 := constantI S_ 32 16384#32
  let main_v48 : IVec S4x127x127 32 := broadcastInDim S4x127x127 ![] bcast_S_S4x127x127 main_c_7
  let main_v49 : IVec S4x127x127 32 := muli main_v45 main_v48
  let main_c_8 : IVec S_ 32 := constantI S_ 32 128#32
  let main_v50 : IVec S4x127x127 32 := broadcastInDim S4x127x127 ![] bcast_S_S4x127x127 main_c_8
  let main_v51 : IVec S4x127x127 32 := muli main_v46 main_v50
  let main_v52 : IVec S4x127x127 32 := addi main_v49 main_v51
  let main_v53 : IVec S4x127x127 32 := addi main_v52 main_v47
  let main_v54 : IVec S1x4x127x127 32 := (extractStridedSlice S1x4x127x127 ![0, 0, 0, 0] · slices_S2x4x127x127_S1x4x127x127_0_0_0_0) main_v44
  let main_v55 : IVec S4x127x127 32 := shapeCast S4x127x127 main_v54 shapeCasts_S1x4x127x127_S4x127x127
  let main_c_9 : IVec S_ 32 := constantI S_ 32 128#32
  let main_v56 : IVec S4x127x127 32 := broadcastInDim S4x127x127 ![] bcast_S_S4x127x127 main_c_9
  let main_v57 : IVec S4x127x127 32 := addi main_v53 main_v56
  let main_v58 : IVec S4x127x127 1 := cmpi .eq main_v55 main_v57
  let main_v59 : IVec S1x4x127x127 32 := (extractStridedSlice S1x4x127x127 ![1, 0, 0, 0] · slices_S2x4x127x127_S1x4x127x127_1_0_0_0) main_v44
  let main_v60 : IVec S4x127x127 32 := shapeCast S4x127x127 main_v59 shapeCasts_S1x4x127x127_S4x127x127
  fn_part3 (F := F) main_v0 main_v16 main_v21 main_v37 main_v42 main_v53 main_v58 main_v60

def fn_part1 {F : FTy → Type} [FloatOps F] (main_v0 : IVec S2x4x145924 32) (main_v11 : IVec S4x127x127 32) (main_v16 : IVec S4x127x127 1) (main_v18 : IVec S4x127x127 32) (main_v19 : IVec S4x127x127 32) : IVec S4x127x127 1 × IVec S4x127x127 1 × IVec S4x127x128 1 × IVec S4x127x128 1 × IVec S4x127x127 1 × IVec S4x127x127 1 × IVec S4x128x127 1 × IVec S4x128x127 1 × IVec S4x128x128 1 × IVec S4x128x128 1 × IVec S4x128x127 1 × IVec S4x128x127 1 × IVec S4x127x127 1 × IVec S4x127x127 1 × IVec S4x127x128 1 × IVec S4x127x128 1 × IVec S4x127x127 1 × IVec S4x127x127 1 :=
  let main_v20 : IVec S4x127x127 32 := addi main_v11 main_v19
  let main_v21 : IVec S4x127x127 1 := cmpi .eq main_v18 main_v20
  let main_v22 : IVec S2x4x16256 32 := (extractStridedSlice S2x4x16256 ![0, 0, 16129] · slices_S2x4x145924_S2x4x16256_0_0_16129) main_v0
  let main_v23 : IVec S2x4x127x128 32 := shapeCast S2x4x127x128 main_v22 shapeCasts_S2x4x16256_S2x4x127x128
  let main_v24 : IVec S4x127x128 32 := iotaInDim S4x127x128 32 0
  let main_v25 : IVec S4x127x128 32 := iotaInDim S4x127x128 32 1
  let main_v26 : IVec S4x127x128 32 := iotaInDim S4x127x128 32 2
  let main_c_3 : IVec S_ 32 := constantI S_ 32 16384#32
  let main_v27 : IVec S4x127x128 32 := broadcastInDim S4x127x128 ![] bcast_S_S4x127x128 main_c_3
  let main_v28 : IVec S4x127x128 32 := muli main_v24 main_v27
  let main_c_4 : IVec S_ 32 := constantI S_ 32 128#32
  let main_v29 : IVec S4x127x128 32 := broadcastInDim S4x127x128 ![] bcast_S_S4x127x128 main_c_4
  let main_v30 : IVec S4x127x128 32 := muli main_v25 main_v29
  let main_v31 : IVec S4x127x128 32 := addi main_v28 main_v30
  let main_v32 : IVec S4x127x128 32 := addi main_v31 main_v26
  let main_v33 : IVec S1x4x127x128 32 := (extractStridedSlice S1x4x127x128 ![0, 0, 0, 0] · slices_S2x4x127x128_S1x4x127x128_0_0_0_0) main_v23
  let main_v34 : IVec S4x127x128 32 := shapeCast S4x127x128 main_v33 shapeCasts_S1x4x127x128_S4x127x128
  let main_c_5 : IVec S_ 32 := constantI S_ 32 128#32
  let main_v35 : IVec S4x127x128 32 := broadcastInDim S4x127x128 ![] bcast_S_S4x127x128 main_c_5
  let main_v36 : IVec S4x127x128 32 := addi main_v32 main_v35
  let main_v37 : IVec S4x127x128 1 := cmpi .eq main_v34 main_v36
  let main_v38 : IVec S1x4x127x128 32 := (extractStridedSlice S1x4x127x128 ![1, 0, 0, 0] · slices_S2x4x127x128_S1x4x127x128_1_0_0_0) main_v23
  let main_v39 : IVec S4x127x128 32 := shapeCast S4x127x128 main_v38 shapeCasts_S1x4x127x128_S4x127x128
  let main_c_6 : IVec S_ 32 := constantI S_ 32 0#32
  fn_part2 (F := F) main_v0 main_v16 main_v21 main_v32 main_v37 main_v39 main_c_6

def fn {F : FTy → Type} [FloatOps F] (main_arg0 : FVec F S4x128x128x128 .f32) (main_arg1 : IVec S2x583696 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) : IVec S4x127x127 1 × IVec S4x127x127 1 × IVec S4x127x128 1 × IVec S4x127x128 1 × IVec S4x127x127 1 × IVec S4x127x127 1 × IVec S4x128x127 1 × IVec S4x128x127 1 × IVec S4x128x128 1 × IVec S4x128x128 1 × IVec S4x128x127 1 × IVec S4x128x127 1 × IVec S4x127x127 1 × IVec S4x127x127 1 × IVec S4x127x128 1 × IVec S4x127x128 1 × IVec S4x127x127 1 × IVec S4x127x127 1 :=
  let main_v0 : IVec S2x4x145924 32 := shapeCast S2x4x145924 main_arg1 shapeCasts_S2x583696_S2x4x145924
  let main_v1 : IVec S2x4x16129 32 := (extractStridedSlice S2x4x16129 ![0, 0, 0] · slices_S2x4x145924_S2x4x16129_0_0_0) main_v0
  let main_v2 : IVec S2x4x127x127 32 := shapeCast S2x4x127x127 main_v1 shapeCasts_S2x4x16129_S2x4x127x127
  let main_v3 : IVec S4x127x127 32 := iotaInDim S4x127x127 32 0
  let main_v4 : IVec S4x127x127 32 := iotaInDim S4x127x127 32 1
  let main_v5 : IVec S4x127x127 32 := iotaInDim S4x127x127 32 2
  let main_c : IVec S_ 32 := constantI S_ 32 16384#32
  let main_v6 : IVec S4x127x127 32 := broadcastInDim S4x127x127 ![] bcast_S_S4x127x127 main_c
  let main_v7 : IVec S4x127x127 32 := muli main_v3 main_v6
  let main_c_0 : IVec S_ 32 := constantI S_ 32 128#32
  let main_v8 : IVec S4x127x127 32 := broadcastInDim S4x127x127 ![] bcast_S_S4x127x127 main_c_0
  let main_v9 : IVec S4x127x127 32 := muli main_v4 main_v8
  let main_v10 : IVec S4x127x127 32 := addi main_v7 main_v9
  let main_v11 : IVec S4x127x127 32 := addi main_v10 main_v5
  let main_v12 : IVec S1x4x127x127 32 := (extractStridedSlice S1x4x127x127 ![0, 0, 0, 0] · slices_S2x4x127x127_S1x4x127x127_0_0_0_0) main_v2
  let main_v13 : IVec S4x127x127 32 := shapeCast S4x127x127 main_v12 shapeCasts_S1x4x127x127_S4x127x127
  let main_c_1 : IVec S_ 32 := constantI S_ 32 129#32
  let main_v14 : IVec S4x127x127 32 := broadcastInDim S4x127x127 ![] bcast_S_S4x127x127 main_c_1
  let main_v15 : IVec S4x127x127 32 := addi main_v11 main_v14
  let main_v16 : IVec S4x127x127 1 := cmpi .eq main_v13 main_v15
  let main_v17 : IVec S1x4x127x127 32 := (extractStridedSlice S1x4x127x127 ![1, 0, 0, 0] · slices_S2x4x127x127_S1x4x127x127_1_0_0_0) main_v2
  let main_v18 : IVec S4x127x127 32 := shapeCast S4x127x127 main_v17 shapeCasts_S1x4x127x127_S4x127x127
  let main_c_2 : IVec S_ 32 := constantI S_ 32 0#32
  let main_v19 : IVec S4x127x127 32 := broadcastInDim S4x127x127 ![] bcast_S_S4x127x127 main_c_2
  fn_part1 (F := F) main_v0 main_v11 main_v16 main_v18 main_v19
-- ==== Kernel.lean ====
abbrev S4x128x128x128 : Shape := ⟨4, ![4, 128, 128, 128]⟩
abbrev S2x583696 : Shape := ⟨2, ![2, 583696]⟩
abbrev S128x128 : Shape := ⟨2, ![128, 128]⟩
abbrev S128 : Shape := ⟨1, ![128]⟩
abbrev S1x128 : Shape := ⟨2, ![1, 128]⟩
abbrev S1x128x128x128 : Shape := ⟨4, ![1, 128, 128, 128]⟩
abbrev S130x128x128 : Shape := ⟨3, ![130, 128, 128]⟩
abbrev S128x128x1 : Shape := ⟨3, ![128, 128, 1]⟩
abbrev S16384x1 : Shape := ⟨2, ![16384, 1]⟩
abbrev S1x128x128 : Shape := ⟨3, ![1, 128, 128]⟩
abbrev S128x128x128 : Shape := ⟨3, ![128, 128, 128]⟩
abbrev S16384x128 : Shape := ⟨2, ![16384, 128]⟩
abbrev S128x1x128 : Shape := ⟨3, ![128, 1, 128]⟩
abbrev S128x127x128 : Shape := ⟨3, ![128, 127, 128]⟩
abbrev S16384 : Shape := ⟨1, ![16384]⟩

abbrev nBuf : Space → Nat
  | .hbm => 24
  | .vmem => 17
  | .smem => 0
  | _ => 0

abbrev bufTy : (tb : Table) → Fin (tcTables nBuf tb) → BufTy
  | .hbm, ⟨0, _⟩ => ⟨S4x128x128x128, .f32⟩
  | .hbm, ⟨1, _⟩ => ⟨S2x583696, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S4x128x128x128, .f32⟩
  | .local _ .vmem, ⟨0, _⟩ => ⟨S1x128x128x128, .f32⟩
  | .local _ .vmem, ⟨1, _⟩ => ⟨S1x128x128x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128x128x128, .f32⟩
  | .local _ .vmem, ⟨15, _⟩ => ⟨S1x128x128x128, .f32⟩
  | .local _ .vmem, ⟨16, _⟩ => ⟨S130x128x128, .f32⟩
  | _, _ => ⟨S4x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x128x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x128x128x128 : Shape := ⟨4, ![4, 128, 128, 128]⟩
abbrev S2x583696 : Shape := ⟨2, ![2, 583696]⟩
abbrev S128x128 : Shape := ⟨2, ![128, 128]⟩
abbrev S128 : Shape := ⟨1, ![128]⟩
abbrev S65536x128 : Shape := ⟨2, ![65536, 128]⟩
abbrev S1x583696 : Shape := ⟨2, ![1, 583696]⟩
abbrev S583696 : Shape := ⟨1, ![583696]⟩
abbrev S_ : Shape := ⟨0, ![]⟩
abbrev S65536 : Shape := ⟨1, ![65536]⟩
abbrev S583696x1 : Shape := ⟨2, ![583696, 1]⟩
abbrev S583696x128 : Shape := ⟨2, ![583696, 128]⟩
abbrev S1x128 : Shape := ⟨2, ![1, 128]⟩
abbrev S65536x1 : Shape := ⟨2, ![65536, 1]⟩

abbrev nBuf : Space → Nat
  | .hbm => 275
  | .vmem => 0
  | .smem => 0
  | _ => 0

abbrev hbmTy0_0 (i : Nat) : BufTy := match i % 128 with
  | 0 => ⟨S4x128x128x128, .f32⟩
  | 1 => ⟨S2x583696, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S4x128x128x128, .f32⟩
  | 15 => ⟨S65536x128, .f32⟩
  | 16 => ⟨S1x583696, .i32⟩
  | 17 => ⟨S583696, .i32⟩
  | 18 => ⟨S1x583696, .i32⟩
  | 19 => ⟨S583696, .i32⟩
  | 20 => ⟨S_, .f32⟩
  | 21 => ⟨S65536, .f32⟩
  | 22 => ⟨S_, .i32⟩
  | 23 => ⟨S583696, .i32⟩
  | 24 => ⟨S583696, .i1⟩
  | 25 => ⟨S_, .i32⟩
  | 26 => ⟨S583696, .i32⟩
  | 27 => ⟨S583696, .i32⟩
  | 28 => ⟨S583696, .i32⟩
  | 29 => ⟨S583696x1, .i32⟩
  | 30 => ⟨S_, .f32⟩
  | 31 => ⟨S583696, .f32⟩
  | 32 => ⟨S65536, .f32⟩
  | 33 => ⟨S_, .f32⟩
  | 34 => ⟨S65536, .f32⟩
  | 35 => ⟨S65536, .i1⟩
  | 36 => ⟨S65536, .f32⟩
  | 37 => ⟨S_, .f32⟩
  | 38 => ⟨S_, .f32⟩
  | 39 => ⟨S65536, .f32⟩
  | 40 => ⟨S65536, .f32⟩
  | 41 => ⟨S_, .i32⟩
  | 42 => ⟨S583696, .i32⟩
  | 43 => ⟨S583696, .i1⟩
  | 44 => ⟨S_, .i32⟩
  | 45 => ⟨S583696, .i32⟩
  | 46 => ⟨S583696, .i32⟩
  | 47 => ⟨S583696, .i32⟩
  | 48 => ⟨S583696x1, .i32⟩
  | 49 => ⟨S583696, .f32⟩
  | 50 => ⟨S_, .i32⟩
  | 51 => ⟨S583696, .i32⟩
  | 52 => ⟨S583696, .i1⟩
  | 53 => ⟨S_, .i32⟩
  | 54 => ⟨S583696, .i32⟩
  | 55 => ⟨S583696, .i32⟩
  | 56 => ⟨S583696, .i32⟩
  | 57 => ⟨S583696x1, .i32⟩
  | 58 => ⟨S583696, .f32⟩
  | 59 => ⟨S583696, .f32⟩
  | 60 => ⟨S65536x128, .f32⟩
  | 61 => ⟨S_, .i32⟩
  | 62 => ⟨S583696, .i32⟩
  | 63 => ⟨S583696, .i1⟩
  | 64 => ⟨S_, .i32⟩
  | 65 => ⟨S583696, .i32⟩
  | 66 => ⟨S583696, .i32⟩
  | 67 => ⟨S583696, .i32⟩
  | 68 => ⟨S583696x1, .i32⟩
  | 69 => ⟨S583696x128, .f32⟩
  | 70 => ⟨S583696x1, .f32⟩
  | 71 => ⟨S583696x128, .f32⟩
  | 72 => ⟨S583696x128, .f32⟩
  | 73 => ⟨S_, .f32⟩
  | 74 => ⟨S65536x128, .f32⟩
  | 75 => ⟨S_, .i32⟩
  | 76 => ⟨S583696, .i32⟩
  | 77 => ⟨S583696, .i1⟩
  | 78 => ⟨S_, .i32⟩
  | 79 => ⟨S583696, .i32⟩
  | 80 => ⟨S583696, .i32⟩
  | 81 => ⟨S583696, .i32⟩
  | 82 => ⟨S583696x1, .i32⟩
  | 83 => ⟨S65536x128, .f32⟩
  | 84 => ⟨S1x128, .f32⟩
  | 85 => ⟨S65536x128, .f32⟩
  | 86 => ⟨S65536x128, .f32⟩
  | 87 => ⟨S_, .f32⟩
  | 88 => ⟨S65536, .f32⟩
  | 89 => ⟨S65536x1, .f32⟩
  | 90 => ⟨S_, .f32⟩
  | 91 => ⟨S65536x1, .f32⟩
  | 92 => ⟨S65536x1, .f32⟩
  | 93 => ⟨S65536x128, .f32⟩
  | 94 => ⟨S65536x128, .f32⟩
  | 95 => ⟨S65536x128, .f32⟩
  | 96 => ⟨S_, .f32⟩
  | 97 => ⟨S65536, .f32⟩
  | 98 => ⟨S65536x1, .f32⟩
  | 99 => ⟨S_, .f32⟩
  | 100 => ⟨S65536x1, .f32⟩
  | 101 => ⟨S65536x1, .f32⟩
  | 102 => ⟨S65536x128, .f32⟩
  | 103 => ⟨S65536x128, .f32⟩
  | 104 => ⟨S_, .f32⟩
  | 105 => ⟨S65536x1, .f32⟩
  | 106 => ⟨S65536x1, .f32⟩
  | 107 => ⟨S65536x1, .f32⟩
  | 108 => ⟨S65536x128, .f32⟩
  | 109 => ⟨S65536x128, .f32⟩
  | 110 => ⟨S1x128, .f32⟩
  | 111 => ⟨S65536x128, .f32⟩
  | 112 => ⟨S65536x128, .f32⟩
  | 113 => ⟨S1x128, .f32⟩
  | 114 => ⟨S65536x128, .f32⟩
  | 115 => ⟨S65536x128, .f32⟩
  | 116 => ⟨S_, .f32⟩
  | 117 => ⟨S65536x128, .f32⟩
  | 118 => ⟨S65536x128, .i1⟩
  | 119 => ⟨S_, .f32⟩
  | 120 => ⟨S65536x128, .f32⟩
  | 121 => ⟨S65536x128, .i1⟩
  | 122 => ⟨S_, .f32⟩
  | 123 => ⟨S_, .f32⟩
  | 124 => ⟨S65536x128, .f32⟩
  | 125 => ⟨S65536x128, .f32⟩
  | 126 => ⟨S65536x128, .f32⟩
  | 127 => ⟨S_, .f32⟩
  | _ => ⟨S4x128x128x128, .f32⟩

abbrev hbmTy0_1 (i : Nat) : BufTy := match i % 128 with
  | 0 => ⟨S65536x128, .f32⟩
  | 1 => ⟨S65536x128, .f32⟩
  | 2 => ⟨S65536x128, .f32⟩
  | 3 => ⟨S65536x128, .f32⟩
  | 4 => ⟨S_, .i32⟩
  | 5 => ⟨S583696, .i32⟩
  | 6 => ⟨S583696, .i1⟩
  | 7 => ⟨S_, .i32⟩
  | 8 => ⟨S583696, .i32⟩
  | 9 => ⟨S583696, .i32⟩
  | 10 => ⟨S583696, .i32⟩
  | 11 => ⟨S583696x1, .i32⟩
  | 12 => ⟨S583696x128, .f32⟩
  | 13 => ⟨S583696x1, .f32⟩
  | 14 => ⟨S583696x128, .f32⟩
  | 15 => ⟨S583696x128, .f32⟩
  | 16 => ⟨S_, .f32⟩
  | 17 => ⟨S65536x128, .f32⟩
  | 18 => ⟨S_, .i32⟩
  | 19 => ⟨S583696, .i32⟩
  | 20 => ⟨S583696, .i1⟩
  | 21 => ⟨S_, .i32⟩
  | 22 => ⟨S583696, .i32⟩
  | 23 => ⟨S583696, .i32⟩
  | 24 => ⟨S583696, .i32⟩
  | 25 => ⟨S583696x1, .i32⟩
  | 26 => ⟨S65536x128, .f32⟩
  | 27 => ⟨S1x128, .f32⟩
  | 28 => ⟨S65536x128, .f32⟩
  | 29 => ⟨S65536x128, .f32⟩
  | 30 => ⟨S_, .f32⟩
  | 31 => ⟨S65536, .f32⟩
  | 32 => ⟨S65536x1, .f32⟩
  | 33 => ⟨S_, .f32⟩
  | 34 => ⟨S65536x1, .f32⟩
  | 35 => ⟨S65536x1, .f32⟩
  | 36 => ⟨S65536x128, .f32⟩
  | 37 => ⟨S65536x128, .f32⟩
  | 38 => ⟨S65536x128, .f32⟩
  | 39 => ⟨S_, .f32⟩
  | 40 => ⟨S65536, .f32⟩
  | 41 => ⟨S65536x1, .f32⟩
  | 42 => ⟨S_, .f32⟩
  | 43 => ⟨S65536x1, .f32⟩
  | 44 => ⟨S65536x1, .f32⟩
  | 45 => ⟨S65536x128, .f32⟩
  | 46 => ⟨S65536x128, .f32⟩
  | 47 => ⟨S_, .f32⟩
  | 48 => ⟨S65536x1, .f32⟩
  | 49 => ⟨S65536x1, .f32⟩
  | 50 => ⟨S65536x1, .f32⟩
  | 51 => ⟨S65536x128, .f32⟩
  | 52 => ⟨S65536x128, .f32⟩
  | 53 => ⟨S1x128, .f32⟩
  | 54 => ⟨S65536x128, .f32⟩
  | 55 => ⟨S65536x128, .f32⟩
  | 56 => ⟨S1x128, .f32⟩
  | 57 => ⟨S65536x128, .f32⟩
  | 58 => ⟨S65536x128, .f32⟩
  | 59 => ⟨S_, .f32⟩
  | 60 => ⟨S65536x128, .f32⟩
  | 61 => ⟨S65536x128, .i1⟩
  | 62 => ⟨S_, .f32⟩
  | 63 => ⟨S65536x128, .f32⟩
  | 64 => ⟨S65536x128, .i1⟩
  | 65 => ⟨S_, .f32⟩
  | 66 => ⟨S_, .f32⟩
  | 67 => ⟨S65536x128, .f32⟩
  | 68 => ⟨S65536x128, .f32⟩
  | 69 => ⟨S65536x128, .f32⟩
  | 70 => ⟨S_, .f32⟩
  | 71 => ⟨S65536x128, .f32⟩
  | 72 => ⟨S65536x128, .f32⟩
  | 73 => ⟨S65536x128, .f32⟩
  | 74 => ⟨S65536x128, .f32⟩
  | 75 => ⟨S_, .i32⟩
  | 76 => ⟨S583696, .i32⟩
  | 77 => ⟨S583696, .i1⟩
  | 78 => ⟨S_, .i32⟩
  | 79 => ⟨S583696, .i32⟩
  | 80 => ⟨S583696, .i32⟩
  | 81 => ⟨S583696, .i32⟩
  | 82 => ⟨S583696x1, .i32⟩
  | 83 => ⟨S583696x128, .f32⟩
  | 84 => ⟨S583696x1, .f32⟩
  | 85 => ⟨S583696x128, .f32⟩
  | 86 => ⟨S583696x128, .f32⟩
  | 87 => ⟨S_, .f32⟩
  | 88 => ⟨S65536x128, .f32⟩
  | 89 => ⟨S_, .i32⟩
  | 90 => ⟨S583696, .i32⟩
  | 91 => ⟨S583696, .i1⟩
  | 92 => ⟨S_, .i32⟩
  | 93 => ⟨S583696, .i32⟩
  | 94 => ⟨S583696, .i32⟩
  | 95 => ⟨S583696, .i32⟩
  | 96 => ⟨S583696x1, .i32⟩
  | 97 => ⟨S65536x128, .f32⟩
  | 98 => ⟨S1x128, .f32⟩
  | 99 => ⟨S65536x128, .f32⟩
  | 100 => ⟨S65536x128, .f32⟩
  | 101 => ⟨S_, .f32⟩
  | 102 => ⟨S65536, .f32⟩
  | 103 => ⟨S65536x1, .f32⟩
  | 104 => ⟨S_, .f32⟩
  | 105 => ⟨S65536x1, .f32⟩
  | 106 => ⟨S65536x1, .f32⟩
  | 107 => ⟨S65536x128, .f32⟩
  | 108 => ⟨S65536x128, .f32⟩
  | 109 => ⟨S65536x128, .f32⟩
  | 110 => ⟨S_, .f32⟩
  | 111 => ⟨S65536, .f32⟩
  | 112 => ⟨S65536x1, .f32⟩
  | 113 => ⟨S_, .f32⟩
  | 114 => ⟨S65536x1, .f32⟩
  | 115 => ⟨S65536x1, .f32⟩
  | 116 => ⟨S65536x128, .f32⟩
  | 117 => ⟨S65536x128, .f32⟩
  | 118 => ⟨S_, .f32⟩
  | 119 => ⟨S65536x1, .f32⟩
  | 120 => ⟨S65536x1, .f32⟩
  | 121 => ⟨S65536x1, .f32⟩
  | 122 => ⟨S65536x128, .f32⟩
  | 123 => ⟨S65536x128, .f32⟩
  | 124 => ⟨S1x128, .f32⟩
  | 125 => ⟨S65536x128, .f32⟩
  | 126 => ⟨S65536x128, .f32⟩
  | 127 => ⟨S1x128, .f32⟩
  | _ => ⟨S4x128x128x128, .f32⟩

abbrev hbmTy0_2 (i : Nat) : BufTy := match i % 128 with
  | 0 => ⟨S65536x128, .f32⟩
  | 1 => ⟨S65536x128, .f32⟩
  | 2 => ⟨S_, .f32⟩
  | 3 => ⟨S65536x128, .f32⟩
  | 4 => ⟨S65536x128, .i1⟩
  | 5 => ⟨S_, .f32⟩
  | 6 => ⟨S65536x128, .f32⟩
  | 7 => ⟨S65536x128, .i1⟩
  | 8 => ⟨S_, .f32⟩
  | 9 => ⟨S_, .f32⟩
  | 10 => ⟨S65536x128, .f32⟩
  | 11 => ⟨S65536x128, .f32⟩
  | 12 => ⟨S65536x128, .f32⟩
  | 13 => ⟨S_, .f32⟩
  | 14 => ⟨S65536x128, .f32⟩
  | 15 => ⟨S65536x128, .f32⟩
  | 16 => ⟨S65536x128, .f32⟩
  | 17 => ⟨S4x128x128x128, .f32⟩
  | 18 => ⟨S4x128x128x128, .f32⟩
  | _ => ⟨S4x128x128x128, .f32⟩

abbrev hbmTy (i : Nat) : BufTy := match i / 128 with
  | 0 => hbmTy0_0 i
  | 1 => hbmTy0_1 i
  | 2 => hbmTy0_2 i
  | _ => ⟨S4x128x128x128, .f32⟩

abbrev bufTy : (tb : Table) → Fin (tcTables nBuf tb) → BufTy
  | .hbm, ⟨i, _⟩ => hbmTy i
  | _, _ => ⟨S4x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_c_12 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_15 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_17 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call1_cst : Ref sig .tc := ⟨.hbm, 116, rfl⟩
abbrev main_call1_v0 : Ref sig .tc := ⟨.hbm, 117, rfl⟩
abbrev main_call1_v1 : Ref sig .tc := ⟨.hbm, 118, rfl⟩
abbrev main_call1_cst_0 : Ref sig .tc := ⟨.hbm, 119, rfl⟩
abbrev main_call1_v2 : Ref sig .tc := ⟨.hbm, 120, rfl⟩
abbrev main_call1_v3 : Ref sig .tc := ⟨.hbm, 121, rfl⟩
abbrev main_call1_cst_1 : Ref sig .tc := ⟨.hbm, 122, rfl⟩
abbrev main_call1_call0_v0 : Ref sig .tc := ⟨.hbm, 123, rfl⟩
abbrev main_call1_call0_v1 : Ref sig .tc := ⟨.hbm, 124, rfl⟩
abbrev main_call1_v4 : Ref sig .tc := ⟨.hbm, 125, rfl⟩
abbrev main_call1_v5 : Ref sig .tc := ⟨.hbm, 126, rfl⟩
abbrev main_call1_cst_2 : Ref sig .tc := ⟨.hbm, 127, rfl⟩
abbrev main_call1_v6 : Ref sig .tc := ⟨.hbm, 128, rfl⟩
abbrev main_call1_v7 : Ref sig .tc := ⟨.hbm, 129, rfl⟩
abbrev main_v80 : Ref sig .tc := ⟨.hbm, 130, rfl⟩
abbrev main_v81 : Ref sig .tc := ⟨.hbm, 131, rfl⟩
abbrev main_c_18 : Ref sig .tc := ⟨.hbm, 132, rfl⟩
abbrev main_v82 : Ref sig .tc := ⟨.hbm, 133, rfl⟩
abbrev main_v83 : Ref sig .tc := ⟨.hbm, 134, rfl⟩
abbrev main_c_19 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_20 : Ref sig .tc := ⟨.hbm, 144, rfl⟩
abbrev main_v92 : Ref sig .tc := ⟨.hbm, 145, rfl⟩
abbrev main_c_21 : Ref sig .tc := ⟨.hbm, 146, rfl⟩
abbrev main_v93 : Ref sig .tc := ⟨.hbm, 147, rfl⟩
abbrev main_v94 : Ref sig .tc := ⟨.hbm, 148, rfl⟩
abbrev main_c_22 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_23 : Ref sig .tc := ⟨.hbm, 158, rfl⟩
abbrev main_v103 : Ref sig .tc := ⟨.hbm, 159, rfl⟩
abbrev main_v104 : Ref sig .tc := ⟨.hbm, 160, rfl⟩
abbrev main_cst_24 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_25 : Ref sig .tc := ⟨.hbm, 167, rfl⟩
abbrev main_v110 : Ref sig .tc := ⟨.hbm, 168, rfl⟩
abbrev main_v111 : Ref sig .tc := ⟨.hbm, 169, rfl⟩
abbrev main_cst_26 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_27 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_call2_cst : Ref sig .tc := ⟨.hbm, 187, rfl⟩
abbrev main_call2_v0 : Ref sig .tc := ⟨.hbm, 188, rfl⟩
abbrev main_call2_v1 : Ref sig .tc := ⟨.hbm, 189, rfl⟩
abbrev main_call2_cst_0 : Ref sig .tc := ⟨.hbm, 190, rfl⟩
abbrev main_call2_v2 : Ref sig .tc := ⟨.hbm, 191, rfl⟩
abbrev main_call2_v3 : Ref sig .tc := ⟨.hbm, 192, rfl⟩
abbrev main_call2_cst_1 : Ref sig .tc := ⟨.hbm, 193, rfl⟩
abbrev main_call2_call0_v0 : Ref sig .tc := ⟨.hbm, 194, rfl⟩
abbrev main_call2_call0_v1 : Ref sig .tc := ⟨.hbm, 195, rfl⟩
abbrev main_call2_v4 : Ref sig .tc := ⟨.hbm, 196, rfl⟩
abbrev main_call2_v5 : Ref sig .tc := ⟨.hbm, 197, rfl⟩
abbrev main_call2_cst_2 : Ref sig .tc := ⟨.hbm, 198, rfl⟩
abbrev main_call2_v6 : Ref sig .tc := ⟨.hbm, 199, rfl⟩
abbrev main_call2_v7 : Ref sig .tc := ⟨.hbm, 200, rfl⟩
abbrev main_v127 : Ref sig .tc := ⟨.hbm, 201, rfl⟩
abbrev main_v128 : Ref sig .tc := ⟨.hbm, 202, rfl⟩
abbrev main_c_28 : Ref sig .tc := ⟨.hbm, 203, rfl⟩
abbrev main_v129 : Ref sig .tc := ⟨.hbm, 204, rfl⟩
abbrev main_v130 : Ref sig .tc := ⟨.hbm, 205, rfl⟩
abbrev main_c_29 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_30 : Ref sig .tc := ⟨.hbm, 215, rfl⟩
abbrev main_v139 : Ref sig .tc := ⟨.hbm, 216, rfl⟩
abbrev main_c_31 : Ref sig .tc := ⟨.hbm, 217, rfl⟩
abbrev main_v140 : Ref sig .tc := ⟨.hbm, 218, rfl⟩
abbrev main_v141 : Ref sig .tc := ⟨.hbm, 219, rfl⟩
abbrev main_c_32 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_cst_33 : Ref sig .tc := ⟨.hbm, 229, rfl⟩
abbrev main_v150 : Ref sig .tc := ⟨.hbm, 230, rfl⟩
abbrev main_v151 : Ref sig .tc := ⟨.hbm, 231, rfl⟩
abbrev main_cst_34 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_cst_35 : Ref sig .tc := ⟨.hbm, 238, rfl⟩
abbrev main_v157 : Ref sig .tc := ⟨.hbm, 239, rfl⟩
abbrev main_v158 : Ref sig .tc := ⟨.hbm, 240, rfl⟩
abbrev main_cst_36 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_cst_37 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_call3_cst : Ref sig .tc := ⟨.hbm, 258, rfl⟩
abbrev main_call3_v0 : Ref sig .tc := ⟨.hbm, 259, rfl⟩
abbrev main_call3_v1 : Ref sig .tc := ⟨.hbm, 260, rfl⟩
abbrev main_call3_cst_0 : Ref sig .tc := ⟨.hbm, 261, rfl⟩
abbrev main_call3_v2 : Ref sig .tc := ⟨.hbm, 262, rfl⟩
abbrev main_call3_v3 : Ref sig .tc := ⟨.hbm, 263, rfl⟩
abbrev main_call3_cst_1 : Ref sig .tc := ⟨.hbm, 264, rfl⟩
abbrev main_call3_call0_v0 : Ref sig .tc := ⟨.hbm, 265, rfl⟩
abbrev main_call3_call0_v1 : Ref sig .tc := ⟨.hbm, 266, rfl⟩
abbrev main_call3_v4 : Ref sig .tc := ⟨.hbm, 267, rfl⟩
abbrev main_call3_v5 : Ref sig .tc := ⟨.hbm, 268, rfl⟩
abbrev main_call3_cst_2 : Ref sig .tc := ⟨.hbm, 269, rfl⟩
abbrev main_call3_v6 : Ref sig .tc := ⟨.hbm, 270, rfl⟩
abbrev main_call3_v7 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩

abbrev nD : Nat := 1
abbrev τ : Topo := Topo.v7x

variable {F : FTy → Type} [FloatOps F]
-- ==== Proof.Gcn.Halo.lean ====
module
public import proofs.«01_k».proof.Proof.Gen.KernelIdeal.Frame
public import Idealize.ShloMosaic.Lib.Pipeline.ValueKit.Acc
public import Idealize.ShloMosaic.PureOps.Ideal.Laws
public import Idealize.ShloMosaic.Lib.IdealHost
public import Idealize.ShloMosaic.Lib.Pointwise.Index

/-!
The scratch with a border

The kernel keeps one image, of 128 rows, in a scratch of 130 rows: rows 1 to 128 hold the image and rows 0 and 129 hold zeros.
Loading 128 rows from row `r` on reads the image moved by `r - 1` rows, with zeros where the border is met.
-/

@[expose] public section

noncomputable section
namespace Cert.Gcn
open Idealize.ShloMosaic Idealize.ShloMosaic.TcCoe Idealize.ShloMosaic.Tactic Idealize.SL.Sem
open Cert.KernelIdeal Cert.KernelIdeal.Gen

/-- What a load of 128 rows from row `r` on of the bordered scratch reads. -/
def shifted (r : ℕ) (P : FVec Ideal S128x128x128 .f32) : FVec Ideal S128x128x128 .f32 := fun k =>
  if h : 1 ≤ (k 0).val + r ∧ (k 0).val + r ≤ 128 then
    P (ix3 (n0 := 128) (n1 := 128) (n2 := 128) ⟨(k 0).val + r - 1, by omega⟩ (k 1) (k 2)) else 0

/-- The writes so far left zeros in the two border rows. -/
def Bordered (L : List (View.Piece (Elt Ideal) S130x128x128 .f32)) : Prop :=
  ∀ y : S130x128x128.Idx, ((y 0).val = 0 ∨ (y 0).val = 129) → View.canon L y = (0 : EReal)

/-- The write of the image's 128 rows. -/
abbrev inner (P : FVec Ideal S128x128x128 .f32) : View.Piece (Elt Ideal) S130x128x128 .f32 :=
  ⟨Rect.unit (s := S130x128x128) ![1, 0, 0] S128x128x128.size inb_S130x128x128_S128x128x128_1_0_0, P⟩

/-- The two writes of zeros. -/
abbrev border : List (View.Piece (Elt Ideal) S130x128x128 .f32) :=
  [⟨Rect.unit (s := S130x128x128) ![129, 0, 0] S1x128x128.size inb_S130x128x128_S1x128x128_129_0_0, k0_pay4 (F := Ideal)⟩,
   ⟨Rect.unit (s := S130x128x128) ![0, 0, 0] S1x128x128.size inb_S130x128x128_S1x128x128_0_0_0, k0_pay3 (F := Ideal)⟩]

/-- The lower border row is zero. -/
theorem pay4_at (k : S1x128x128.Idx) : k0_pay4 (F := Ideal) k = (0 : EReal) := Ideal.ofBits_zero_f32

/-- The upper border row is zero. -/
theorem pay3_at (k : S1x128x128.Idx) : k0_pay3 (F := Ideal) k = (0 : EReal) := Ideal.ofBits_zero_f32

/-- The writes of zeros make the border. -/
theorem bordered_border : Bordered border := by
  intro y hy
  by_cases h : (y 0).val = 129
  · have e : (Rect.unit (s := S130x128x128) ![129, 0, 0] S1x128x128.size inb_S130x128x128_S1x128x128_129_0_0).emb
        (ix3 (n0 := 1) (n1 := 128) (n2 := 128) 0 (y 1) (y 2)) = y := funext fun a => Fin.ext (by
      match a with
      | ⟨0, _⟩ => show 129 + 1 * 0 = (y 0).val; omega
      | ⟨1, _⟩ => show 0 + 1 * (y 1).val = (y 1).val; omega
      | ⟨2, _⟩ => show 0 + 1 * (y 2).val = (y 2).val; omega)
    rw [← e]
    exact (View.canon_cons_emb _ _ _ _).trans (pay4_at _)
  · have h0 : (y 0).val = 0 := by omega
    refine (View.canon_cons_of_not_mem _ _ ?_).trans ?_
    · intro hm
      have := ((Rect.mem_set_unit (inb := inb_S130x128x128_S1x128x128_129_0_0)).1 hm 0).1
      change 129 ≤ (y 0).val at this
      omega
    · have e : (Rect.unit (s := S130x128x128) ![0, 0, 0] S1x128x128.size inb_S130x128x128_S1x128x128_0_0_0).emb
          (ix3 (n0 := 1) (n1 := 128) (n2 := 128) 0 (y 1) (y 2)) = y := funext fun a => Fin.ext (by
        match a with
        | ⟨0, _⟩ => show 0 + 1 * 0 = (y 0).val; omega
        | ⟨1, _⟩ => show 0 + 1 * (y 1).val = (y 1).val; omega
        | ⟨2, _⟩ => show 0 + 1 * (y 2).val = (y 2).val; omega)
      rw [← e]
      exact (View.canon_cons_emb _ _ _ _).trans (pay3_at _)

/-- Writing the image's rows leaves the border. -/
theorem Bordered.inner {L : List (View.Piece (Elt Ideal) S130x128x128 .f32)} (hL : Bordered L)
    (P : FVec Ideal S128x128x128 .f32) : Bordered (Gcn.inner P :: L) := by
  intro y hy
  refine (View.canon_cons_of_not_mem _ _ ?_).trans (hL y hy)
  intro hm
  have := (Rect.mem_set_unit (inb := inb_S130x128x128_S128x128x128_1_0_0)).1 hm 0
  change 1 ≤ (y 0).val ∧ (y 0).val < 1 + 128 at this
  omega

/-- The scratch after the image is written: the image between the border rows. -/
theorem canon_inner {L : List (View.Piece (Elt Ideal) S130x128x128 .f32)} (hL : Bordered L)
    (P : FVec Ideal S128x128x128 .f32) (r : ℕ) (hr : r ≤ 2) (y : S130x128x128.Idx) (k : S128x128x128.Idx)
    (h0 : (y 0).val = r + (k 0).val) (h1 : (y 1).val = (k 1).val) (h2 : (y 2).val = (k 2).val) :
    View.canon (Gcn.inner P :: L) y = shifted r P k := by
  have hk : (k 0).val < 128 := (k 0).isLt
  unfold shifted
  by_cases h : 1 ≤ (k 0).val + r ∧ (k 0).val + r ≤ 128
  · rw [dif_pos h]
    have e : (Rect.unit (s := S130x128x128) ![1, 0, 0] S128x128x128.size inb_S130x128x128_S128x128x128_1_0_0).emb
        (ix3 (n0 := 128) (n1 := 128) (n2 := 128) ⟨(k 0).val + r - 1, by omega⟩ (k 1) (k 2)) = y := funext fun a => Fin.ext (by
      match a with
      | ⟨0, _⟩ => show 1 + 1 * ((k 0).val + r - 1) = (y 0).val; omega
      | ⟨1, _⟩ => show 0 + 1 * (k 1).val = (y 1).val; omega
      | ⟨2, _⟩ => show 0 + 1 * (k 2).val = (y 2).val; omega)
    rw [← e]
    exact View.canon_cons_emb _ _ _ _
  · rw [dif_neg h]
    exact hL.inner P y (by omega)

/-- A load of 128 rows from row 0 on: the image moved down by one row. -/
theorem load_zero {sp : Space} (v : View sig .tc sp S130x128x128 .f32)
    {L : List (View.Piece (Elt Ideal) S130x128x128 .f32)} (hL : Bordered L) (P : FVec Ideal S128x128x128 .f32) :
    v.readCov (Gcn.inner P :: L)
      (Rect.unit (s := S130x128x128) ![0, 0, 0] S128x128x128.size inb_S130x128x128_S128x128x128_0_0_0).toLoadRect = shifted 0 P :=
  (View.readCov_eq_canon' v _ _).trans <| funext fun k => canon_inner hL P 0 (by omega) _ k
    (show 0 + 1 * (k 0).val = 0 + (k 0).val by omega) (show 0 + 1 * (k 1).val = (k 1).val by omega)
    (show 0 + 1 * (k 2).val = (k 2).val by omega)

/-- A load of 128 rows from row 1 on: the image. -/
theorem load_one {sp : Space} (v : View sig .tc sp S130x128x128 .f32)
    {L : List (View.Piece (Elt Ideal) S130x128x128 .f32)} (hL : Bordered L) (P : FVec Ideal S128x128x128 .f32) :
    v.readCov (Gcn.inner P :: L)
      (Rect.unit (s := S130x128x128) ![1, 0, 0] S128x128x128.size inb_S130x128x128_S128x128x128_1_0_0).toLoadRect = shifted 1 P :=
  (View.readCov_eq_canon' v _ _).trans <| funext fun k => canon_inner hL P 1 (by omega) _ k
    (show 1 + 1 * (k 0).val = 1 + (k 0).val by omega) (show 0 + 1 * (k 1).val = (k 1).val by omega)
    (show 0 + 1 * (k 2).val = (k 2).val by omega)

/-- A load of 128 rows from row 2 on: the image moved up by one row. -/
theorem load_two {sp : Space} (v : View sig .tc sp S130x128x128 .f32)
    {L : List (View.Piece (Elt Ideal) S130x128x128 .f32)} (hL : Bordered L) (P : FVec Ideal S128x128x128 .f32) :
    v.readCov (Gcn.inner P :: L)
      (Rect.unit (s := S130x128x128) ![2, 0, 0] S128x128x128.size inb_S130x128x128_S128x128x128_2_0_0).toLoadRect = shifted 2 P :=
  (View.readCov_eq_canon' v _ _).trans <| funext fun k => canon_inner hL P 2 (by omega) _ k
    (show 2 + 1 * (k 0).val = 2 + (k 0).val by omega) (show 0 + 1 * (k 1).val = (k 1).val by omega)
    (show 0 + 1 * (k 2).val = (k 2).val by omega)

end Cert.Gcn
-- ==== Proof.Gcn.Spec.lean ====
/- The mathematics both programs compute, on one image: a graph convolution over the 3×3 neighbourhood of a
   128×128 grid, a layer normalisation over the channels and an exponential linear unit. Nothing here mentions
   a program. Pixels are pairs of naturals below 128; a neighbour outside the grid contributes zero (`pad`). -/
module

public import Idealize.ShloMosaic.PureOps.Ideal.Laws
public import Idealize.ShloMosaic.Lib.IdealHost

@[expose] public section

noncomputable section

namespace Cert.Gcn

open Idealize.ShloMosaic

/-- The grid with a border of zeros around it: position `(x, y)` of the bordered grid is pixel
    `(x - 1, y - 1)`, and the border is zero. -/
def pad (t : ℕ → ℕ → EReal) (x y : ℕ) : EReal :=
  if 1 ≤ x ∧ x ≤ 128 ∧ 1 ≤ y ∧ y ≤ 128 then t (x - 1) (y - 1) else 0

/-- The sum over the 3×3 neighbourhood of pixel `(i, j)`, itself included. -/
def box (t : ℕ → ℕ → EReal) (i j : ℕ) : EReal :=
  pad t (i + 2) (j + 2) + pad t (i + 2) (j + 1) + pad t (i + 2) j
    + (pad t (i + 1) (j + 2) + pad t (i + 1) (j + 1) + pad t (i + 1) j)
    + (pad t i (j + 2) + pad t i (j + 1) + pad t i j)

/-- How many neighbours a coordinate has along its axis, itself included. -/
def along (i : ℕ) : ℕ := 1 + (if 0 < i then 1 else 0) + (if i < 127 then 1 else 0)

/-- The number of neighbours of a pixel, itself included. -/
def degree (i j : ℕ) : ℕ := along i * along j

/-- The reciprocal square root of the degree. -/
def dis (i j : ℕ) : EReal := Ideal.rsqrt (((degree i j : ℕ) : ℝ) : EReal)

/-- The float `1e-5` of both programs. -/
def eps : EReal := Ideal.ofBits .f32 0x3727C5AC#32

/-- The number of channels, as the programs' float constant. -/
def chans : EReal := Ideal.ofBits .f32 0x43000000#32

/-- The graph convolution with symmetric normalisation, then the bias. -/
def conv (H : ℕ → ℕ → Fin 128 → EReal) (W : Fin 128 → Fin 128 → EReal) (b : Fin 128 → EReal)
    (i j : ℕ) (c : Fin 128) : EReal :=
  dis i j * box (fun x y => (∑ k, H x y k * W k c) * dis x y) i j + b c

/-- The mean over the channels. -/
def mean (v : Fin 128 → EReal) : EReal := Ideal.div (∑ k, v k) chans

/-- The variance over the channels. -/
def variance (v : Fin 128 → EReal) : EReal :=
  Ideal.div (∑ k, (v k - mean v) * (v k - mean v)) chans

/-- Layer normalisation over the channels, with gain and offset. -/
def norm (v g s : Fin 128 → EReal) (c : Fin 128) : EReal :=
  (v c - mean v) * Ideal.rsqrt (variance v + eps) * g c + s c

/-- The exponential linear unit. -/
def elu (x : EReal) : EReal := if 0 < x then x else Ideal.exp x - 1

/-- One layer of the network. -/
def layer (H : ℕ → ℕ → Fin 128 → EReal) (W : Fin 128 → Fin 128 → EReal) (b g s : Fin 128 → EReal)
    (i j : ℕ) (c : Fin 128) : EReal :=
  elu (norm (conv H W b i j) g s c)

/-! ## Only the grid's own pixels matter -/

/-- A bordered grid depends on its values inside the grid only. -/
theorem pad_congr {t u : ℕ → ℕ → EReal} (h : ∀ i < 128, ∀ j < 128, t i j = u i j) (x y : ℕ) :
    pad t x y = pad u x y := by
  unfold pad
  split
  · rename_i hc
    exact h _ (by omega) _ (by omega)
  · rfl

/-- A neighbourhood sum depends on the values inside the grid only. -/
theorem box_congr {t u : ℕ → ℕ → EReal} (h : ∀ i < 128, ∀ j < 128, t i j = u i j) (i j : ℕ) :
    box t i j = box u i j := by
  unfold box
  simp only [pad_congr h]

/-- A layer depends on the values inside the grid only. -/
theorem layer_congr {H K : ℕ → ℕ → Fin 128 → EReal} (h : ∀ i < 128, ∀ j < 128, ∀ k, H i j k = K i j k)
    (W : Fin 128 → Fin 128 → EReal) (b g s : Fin 128 → EReal) (i j : ℕ) (c : Fin 128) :
    layer H W b g s i j c = layer K W b g s i j c := by
  have hc : conv H W b i j = conv K W b i j := by
    funext c
    unfold conv
    rw [box_congr (u := fun x y => (∑ k, K x y k * W k c) * dis x y)]
    intro x hx y hy
    simp only [h x hx y hy]
  unfold layer
  rw [hc]

/-! ## The degree and its reciprocal square root -/

/-- Every coordinate has a neighbour along its axis. -/
theorem along_pos (i : ℕ) : 0 < along i := by unfold along; omega

/-- Every pixel has a neighbour. -/
theorem degree_pos (i j : ℕ) : 0 < degree i j := Nat.mul_pos (along_pos i) (along_pos j)

/-- The reciprocal square root of the degree is a real number. -/
theorem dis_eq (i j : ℕ) : dis i j = (((Real.sqrt (degree i j : ℕ))⁻¹ : ℝ) : EReal) := by
  have h : (0 : ℝ) < ((degree i j : ℕ) : ℝ) := by exact_mod_cast degree_pos i j
  unfold dis
  show (if ((degree i j : ℕ) : ℝ) < 0 then (⊥ : EReal) else if ((degree i j : ℕ) : ℝ) = 0 then ⊤ else _) = _
  rw [if_neg (not_lt.mpr h.le), if_neg h.ne']

/-- It is not negative. -/
theorem dis_nonneg (i j : ℕ) : 0 ≤ dis i j := by
  rw [dis_eq]
  exact_mod_cast inv_nonneg.mpr (Real.sqrt_nonneg _)

/-- It is not infinite. -/
theorem dis_ne_top (i j : ℕ) : dis i j ≠ ⊤ := by
  rw [dis_eq]
  exact EReal.coe_ne_top _

/-- Whether a coordinate of the bordered grid lies inside the grid, as a count. -/
def inside (x : ℕ) : ℕ := if 1 ≤ x ∧ x ≤ 128 then 1 else 0

/-- Along an axis, the neighbours inside the grid are counted by `along`. -/
theorem along_eq {i : ℕ} (hi : i < 128) : inside (i + 2) + inside (i + 1) + inside i = along i := by
  unfold inside along
  split <;> split <;> split <;> split <;> split <;> omega

/-- The count of a pixel's neighbours by summing ones over its neighbourhood is its degree. -/
theorem box_one {i j : ℕ} (hi : i < 128) (hj : j < 128) :
    box (fun _ _ => 1) i j = (((degree i j : ℕ) : ℝ) : EReal) := by
  have e (x y : ℕ) : pad (fun _ _ => 1) x y = (((inside x * inside y : ℕ) : ℝ) : EReal) := by
    unfold pad inside
    by_cases hx : 1 ≤ x ∧ x ≤ 128 <;> by_cases hy : 1 ≤ y ∧ y ≤ 128
    · rw [if_pos ⟨hx.1, hx.2, hy⟩, if_pos hx, if_pos hy]; simp
    · rw [if_neg (fun h => hy h.2.2), if_neg hy]; simp
    · rw [if_neg (fun h => hx ⟨h.1, h.2.1⟩), if_neg hx]; simp
    · rw [if_neg (fun h => hx ⟨h.1, h.2.1⟩), if_neg hx]; simp
  unfold box
  simp only [e, ← EReal.coe_add, ← Nat.cast_add]
  refine congrArg (fun n : ℕ => ((n : ℝ) : EReal)) ?_
  unfold degree
  rw [← along_eq hi, ← along_eq hj]
  ring

/-- Multiplying every neighbour's value by a finite factor that is not negative multiplies the sum. -/
theorem box_mul (a : EReal) (h0 : 0 ≤ a) (ht : a ≠ ⊤) (t : ℕ → ℕ → EReal) (i j : ℕ) :
    box (fun x y => t x y * a) i j = a * box t i j := by
  have e (x y : ℕ) : pad (fun x y => t x y * a) x y = a * pad t x y := by
    unfold pad; split
    · exact mul_comm _ _
    · exact (mul_zero a).symm
  unfold box
  simp only [e, EReal.left_distrib_of_nonneg_of_ne_top h0 ht]

/-! ## Layer normalisation by a quotient -/

/-- The channel count's float is the real 128. -/
theorem chans_eq : chans = ((128 : ℝ) : EReal) := by
  unfold chans
  simp [Ideal.ofBits, Ideal.ieee, -EReal.coe_mul]
  norm_num

/-- The float `1e-5` is a positive real. -/
theorem eps_pos : ∃ r : ℝ, 0 < r ∧ eps = (r : EReal) := by
  refine ⟨_, ?_, by unfold eps; simp [Ideal.ofBits, Ideal.ieee, -EReal.coe_mul]; rfl⟩
  norm_num

/-- Dividing by the channel count keeps a value from being negative. -/
theorem div_chans_nonneg {x : EReal} (h : 0 ≤ x) : 0 ≤ Ideal.div x chans := by
  rw [chans_eq]
  unfold Ideal.div
  rw [if_neg (by norm_num)]
  refine mul_nonneg h ?_
  rw [← EReal.coe_inv]
  exact_mod_cast (by norm_num : (0 : ℝ) ≤ 128⁻¹)

/-- A square is not negative. -/
theorem mul_self_nonneg' (x : EReal) : 0 ≤ x * x := by
  rcases le_total 0 x with h | h
  · exact mul_nonneg h h
  · rw [← neg_mul_neg]
    exact mul_nonneg (EReal.neg_nonneg.mpr h) (EReal.neg_nonneg.mpr h)

/-- The variance is not negative. -/
theorem variance_nonneg (v : Fin 128 → EReal) : 0 ≤ variance v :=
  div_chans_nonneg (Finset.sum_nonneg fun _ _ => mul_self_nonneg' _)

/-- Dividing by the square root of a positive value is multiplying by its reciprocal square root. -/
theorem div_sqrt {x : EReal} (d : EReal) (h : 0 < x) : Ideal.div d (Ideal.sqrt x) = d * Ideal.rsqrt x := by
  induction x with
  | bot => simp at h
  | top =>
    show Ideal.div d ⊤ = d * 0
    unfold Ideal.div
    simp
  | coe r =>
    have hr : 0 < r := by exact_mod_cast h
    have hs : Real.sqrt r ≠ 0 := (Real.sqrt_pos.mpr hr).ne'
    show Ideal.div d (if r < 0 then ⊥ else (Real.sqrt r : EReal))
      = d * (if r < 0 then ⊥ else if r = 0 then ⊤ else (((Real.sqrt r)⁻¹ : ℝ) : EReal))
    rw [if_neg (not_lt.mpr hr.le), if_neg (not_lt.mpr hr.le), if_neg hr.ne']
    unfold Ideal.div
    rw [if_neg (by exact_mod_cast hs), EReal.coe_inv]

/-- Layer normalisation written with a quotient by the standard deviation. -/
theorem norm_quotient (v g s : Fin 128 → EReal) (c : Fin 128) :
    Ideal.div (v c - mean v) (Ideal.sqrt (variance v + eps)) * g c + s c = norm v g s c := by
  obtain ⟨r, hr, he⟩ := eps_pos
  unfold norm
  rw [div_sqrt]
  have h1 : (0 : EReal) < eps := by rw [he]; exact_mod_cast hr
  exact lt_of_lt_of_le h1 (le_add_of_nonneg_left (variance_nonneg v))

/-! ## The exponential linear unit, spelt with two selections -/

/-- A choice by the comparison with zero. -/
theorem select_pos (x a b : EReal) :
    Scalar.select (Ideal.cmp .ogt x (Ideal.ofBits .f32 0x00000000#32)) a b = if 0 < x then a else b := by
  rw [Ideal.ofBits_zero_f32]
  unfold Scalar.select Ideal.cmp
  by_cases h : 0 < x <;> simp [h]

/-- The unit computed as a select over `expm1` of a value cut at zero. -/
theorem elu_two_selects (x : EReal) :
    (if 0 < x then x else 1 * Ideal.expm1 (if 0 < x then 0 else x)) = elu x := by
  unfold elu
  split
  · rfl
  · rw [one_mul]; rfl

/-- The three layers of the network. -/
def gcn (X : ℕ → ℕ → Fin 128 → EReal) (W1 : Fin 128 → Fin 128 → EReal) (b1 g1 s1 : Fin 128 → EReal)
    (W2 : Fin 128 → Fin 128 → EReal) (b2 g2 s2 : Fin 128 → EReal) (W3 : Fin 128 → Fin 128 → EReal)
    (b3 g3 s3 : Fin 128 → EReal) : ℕ → ℕ → Fin 128 → EReal :=
  layer (layer (layer X W1 b1 g1 s1) W2 b2 g2 s2) W3 b3 g3 s3

theorem gcn_congr {X Y : ℕ → ℕ → Fin 128 → EReal} (h : ∀ i < 128, ∀ j < 128, ∀ k, X i j k = Y i j k)
    (W1 : Fin 128 → Fin 128 → EReal) (b1 g1 s1 : Fin 128 → EReal) (W2 : Fin 128 → Fin 128 → EReal)
    (b2 g2 s2 : Fin 128 → EReal) (W3 : Fin 128 → Fin 128 → EReal) (b3 g3 s3 : Fin 128 → EReal) (i j : ℕ) (c : Fin 128) :
    gcn X W1 b1 g1 s1 W2 b2 g2 s2 W3 b3 g3 s3 i j c = gcn Y W1 b1 g1 s1 W2 b2 g2 s2 W3 b3 g3 s3 i j c :=
  layer_congr (fun _ _ _ _ _ => layer_congr (fun _ _ _ _ _ => layer_congr h _ _ _ _ _ _ _) _ _ _ _ _ _ _) _ _ _ _ _ _ _

end Cert.Gcn

end

end
-- ==== Proof.Gcn.Shapes.lean ====
module
public import proofs.«01_k».proof.Proof.Gen.KernelIdeal.Frame
public import proofs.«01_k».proof.Proof.Gcn.Spec
public import Idealize.ShloMosaic.PureOps.Ideal.Laws
public import Idealize.ShloMosaic.Lib.IdealHost
public import Idealize.ShloMosaic.Lib.Pointwise.Index
public import Idealize.ShloMosaic.Lib.Pipeline.Value

/-!
The kernel's shape operations, entry by entry

The kernel moves between three layouts of one image: pixels by channels (`16384 x 128`), rows by columns by channels
(`128 x 128 x 128`) and channels by rows by columns.  Each reading here names the entry of the operand that an entry of the
result is.
-/

@[expose] public section

noncomputable section
namespace Cert.Gcn
open Idealize.ShloMosaic Idealize.ShloMosaic.TcCoe Idealize.ShloMosaic.Tactic Idealize.SL.Sem
open Cert.KernelIdeal Cert.KernelIdeal.Gen

/-- The number of pixel `(i, j)`. -/
def pixel (i j : Fin 128) : Fin 16384 := ⟨i.val * 128 + j.val, by omega⟩

/-- The row of pixel `p`. -/
def prow (p : Fin 16384) : Fin 128 := ⟨p.val / 128, by omega⟩

/-- The column of pixel `p`. -/
def pcol (p : Fin 16384) : Fin 128 := ⟨p.val % 128, by omega⟩

/-- The row of pixel `(i, j)` is `i`. -/
theorem prow_pixel (i j : Fin 128) : prow (pixel i j) = i := Fin.ext (show (i.val * 128 + j.val) / 128 = i.val by omega)

/-- The column of pixel `(i, j)` is `j`. -/
theorem pcol_pixel (i j : Fin 128) : pcol (pixel i j) = j := Fin.ext (show (i.val * 128 + j.val) % 128 = j.val by omega)

/-- Pixels by channels read as rows by columns by channels. -/
theorem grid_at (A : FVec Ideal S16384x128 .f32) (i j c : Fin 128) :
    shapeCast S128x128x128 A shapeCasts_S16384x128_S128x128x128 (ix3 i j c) = A (ix2 (pixel i j) c) :=
  shapeCast_apply _ _ _ _ (by
    rw [Shape.rowMajor_val_two, Shape.rowMajor_val_three]
    show (i.val * 128 + j.val) * 128 + c.val = (i.val * 128 + j.val) * 128 + c.val
    rfl)

/-- Rows by columns by channels read as pixels by channels. -/
theorem pixels_at (A : FVec Ideal S128x128x128 .f32) (p : Fin 16384) (c : Fin 128) :
    shapeCast S16384x128 A shapeCasts_S128x128x128_S16384x128 (ix2 p c) = A (ix3 (prow p) (pcol p) c) :=
  shapeCast_apply _ _ _ _ (by
    rw [Shape.rowMajor_val_two, Shape.rowMajor_val_three]
    show (p.val / 128 * 128 + p.val % 128) * 128 + c.val = p.val * 128 + c.val
    omega)

/-- A column of pixels spread over the channels. -/
theorem spread_at (v : FVec Ideal S16384x1 .f32) (p : Fin 16384) (c : Fin 128) :
    broadcastTo S16384x128 v broadcasts_S16384x1_S16384x128 (ix2 p c) = v (ix2 p 0) :=
  broadcastTo_apply _ _ _ _ (fun a => by
    match a with
    | ⟨0, _⟩ => show p.val = if (16384 : ℕ) = 1 then 0 else p.val; rw [if_neg (by decide)]
    | ⟨1, _⟩ => show 0 = if (1 : ℕ) = 1 then 0 else c.val; rw [if_pos rfl])

/-- A row of channels repeated for every pixel. -/
theorem lane_at (v : FVec Ideal S1x128 .f32) (p : Fin 16384) (c : Fin 128) :
    broadcastTo S16384x128 (shapeCast S1x128 v shapeCasts_S1x128_S1x128) broadcasts_S1x128_S16384x128 (ix2 p c) =
      v (ix2 0 c) := by
  rw [shapeCast_self]
  exact broadcastTo_apply _ _ _ _ (fun a => by
    match a with
    | ⟨0, _⟩ => show 0 = if (1 : ℕ) = 1 then 0 else p.val; rw [if_pos rfl]
    | ⟨1, _⟩ => show c.val = if (128 : ℕ) = 1 then 0 else c.val; rw [if_neg (by decide)])

/-- The sum over the channels, kept as a column of pixels. -/
theorem total_at (V : FVec Ideal S16384x128 .f32) (p : Fin 16384) :
    shapeCast S16384x1 (multiReduction .add [1] S16384 V 0x00000000#32 reduces_S16384x128_S16384 (.inl rfl) rfl)
      shapeCasts_S16384_S16384x1 (ix2 p 0) = ∑ k : Fin 128, V (ix2 p k) := by
  refine (shapeCast_apply _ _ _ (ix1 p) (by
    rw [Shape.rowMajor_val_two, Shape.rowMajor_val_one]
    show p.val = p.val * 1 + 0
    omega)).trans ?_
  refine (Ideal.multiReduction_add_single _ _ _ _ _ _).trans ?_
  refine Finset.sum_congr rfl fun k _ => congrArg V (funext fun a => Fin.ext (by
    match a with
    | ⟨0, _⟩ => rfl
    | ⟨1, _⟩ => rfl))

/-- The column to the left, zero at the edge. -/
theorem left_at (z : FVec Ideal S128x1x128 .f32) (hz : ∀ k, z k = (0 : EReal)) (s : FVec Ideal S128x128x128 .f32)
    (i j c : Fin 128) :
    concatenate S128x128x128 1
      [⟨S128x1x128, z⟩,
       ⟨S128x127x128, extractStridedSlice S128x127x128 ![0, 0, 0] s slices_S128x128x128_o0_0_0_S128x127x128⟩]
      concatenates_S128x1x128_S128x127x128_S128x128x128_d1 (ix3 i j c) =
      if h : 1 ≤ j.val then s (ix3 i ⟨j.val - 1, by omega⟩ c) else (0 : EReal) := by
  split
  · rename_i h
    refine (concatenate_pair_apply_right (t := S128x128x128) (s₁ := S128x1x128) (s₂ := S128x127x128) (1 : Fin 3) z _ _ _ rfl rfl
      (ix3 (n0 := 128) (n1 := 127) (n2 := 128) i ⟨j.val - 1, by omega⟩ c) (fun b hb => ?_) ?_).trans ?_
    · match b, hb with
      | ⟨0, _⟩, _ => rfl
      | ⟨1, _⟩, hb => exact absurd rfl hb
      | ⟨2, _⟩, _ => rfl
    · show j.val - 1 + 1 = j.val
      omega
    · exact extractStridedSlice_apply _ _ _ _ _ (fun a => by
        match a with
        | ⟨0, _⟩ => show i.val = 0 + i.val; omega
        | ⟨1, _⟩ => show j.val - 1 = 0 + (j.val - 1); omega
        | ⟨2, _⟩ => show c.val = 0 + c.val; omega)
  · rename_i h
    refine (concatenate_pair_apply_left (t := S128x128x128) (s₁ := S128x1x128) (s₂ := S128x127x128) (1 : Fin 3) z _ _ _ rfl
      (ix3 (n0 := 128) (n1 := 1) (n2 := 128) i 0 c) (fun b => ?_)).trans (hz _)
    match b with
    | ⟨0, _⟩ => rfl
    | ⟨1, _⟩ => show 0 = j.val; omega
    | ⟨2, _⟩ => rfl

/-- The column to the right, zero at the edge. -/
theorem right_at (z : FVec Ideal S128x1x128 .f32) (hz : ∀ k, z k = (0 : EReal)) (s : FVec Ideal S128x128x128 .f32)
    (i j c : Fin 128) :
    concatenate S128x128x128 1
      [⟨S128x127x128, extractStridedSlice S128x127x128 ![0, 1, 0] s slices_S128x128x128_o0_1_0_S128x127x128⟩,
       ⟨S128x1x128, z⟩]
      concatenates_S128x127x128_S128x1x128_S128x128x128_d1 (ix3 i j c) =
      if h : j.val < 127 then s (ix3 i ⟨j.val + 1, by omega⟩ c) else (0 : EReal) := by
  split
  · rename_i h
    refine (concatenate_pair_apply_left (t := S128x128x128) (s₁ := S128x127x128) (s₂ := S128x1x128) (1 : Fin 3) _ z _ _ rfl
      (ix3 (n0 := 128) (n1 := 127) (n2 := 128) i ⟨j.val, h⟩ c) (fun b => ?_)).trans ?_
    · match b with
      | ⟨0, _⟩ => rfl
      | ⟨1, _⟩ => rfl
      | ⟨2, _⟩ => rfl
    · exact extractStridedSlice_apply _ _ _ _ _ (fun a => by
        match a with
        | ⟨0, _⟩ => show i.val = 0 + i.val; omega
        | ⟨1, _⟩ => show j.val + 1 = 1 + j.val; omega
        | ⟨2, _⟩ => show c.val = 0 + c.val; omega)
  · rename_i h
    refine (concatenate_pair_apply_right (t := S128x128x128) (s₁ := S128x127x128) (s₂ := S128x1x128) (1 : Fin 3) _ z _ _ rfl rfl
      (ix3 (n0 := 128) (n1 := 1) (n2 := 128) i 0 c) (fun b hb => ?_) ?_).trans (hz _)
    · match b, hb with
      | ⟨0, _⟩, _ => rfl
      | ⟨1, _⟩, hb => exact absurd rfl hb
      | ⟨2, _⟩, _ => rfl
    · show 0 + 127 = j.val
      omega

/-- The product's left operand is read in the result's row. -/
theorem product_row (i : S16384x128.Idx) (q : dot_S16384x128_S128x128_S16384x128_1_0_0_1_n_n.contr.Idx) : (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl

/-- The product's right operand is read in the result's column. -/
theorem product_column (i : S16384x128.Idx) (q : dot_S16384x128_S128x128_S16384x128_1_0_0_1_n_n.contr.Idx) : (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl

/-- The product of pixels by channels with a weight matrix. -/
theorem product_at (A : FVec Ideal S16384x128 .f32) (W : FVec Ideal S128x128 .f32) (p : Fin 16384) (c : Fin 128) :
    FloatOps.matmul dot_S16384x128_S128x128_S16384x128_1_0_0_1_n_n none A W (constant S16384x128 .f32 0x00000000#32) (ix2 p c) =
      ∑ k : Fin 128, A (ix2 p k) * W (ix2 k c) := by
  rw [Ideal.matmul_constant_zero_apply, ← Equiv.sum_comp (ValueIdx.contrEquiv1 dot_S16384x128_S128x128_S16384x128_1_0_0_1_n_n 128 rfl rfl).symm]
  refine Finset.sum_congr rfl fun k _ => ?_
  have hk := ValueIdx.contrEquiv1_symm_val dot_S16384x128_S128x128_S16384x128_1_0_0_1_n_n 128 rfl rfl k
  have hl : dot_S16384x128_S128x128_S16384x128_1_0_0_1_n_n.lhsIdx (ix2 p c) ((ValueIdx.contrEquiv1 dot_S16384x128_S128x128_S16384x128_1_0_0_1_n_n 128 rfl rfl).symm k) = ix2 p k := funext fun a => Fin.ext (by
    match a with
    | ⟨0, _⟩ => exact product_row _ _
    | ⟨1, _⟩ => exact (dot_S16384x128_S128x128_S16384x128_1_0_0_1_n_n.lhsIdx_val_of_single rfl _ _).trans hk)
  have hr : dot_S16384x128_S128x128_S16384x128_1_0_0_1_n_n.rhsIdx (ix2 p c) ((ValueIdx.contrEquiv1 dot_S16384x128_S128x128_S16384x128_1_0_0_1_n_n 128 rfl rfl).symm k) = ix2 k c := funext fun a => Fin.ext (by
    match a with
    | ⟨0, _⟩ => exact (dot_S16384x128_S128x128_S16384x128_1_0_0_1_n_n.rhsIdx_val_of_single rfl _ _).trans hk
    | ⟨1, _⟩ => exact product_column _ _)
  rw [hl, hr]

/-- Channels by rows by columns turned into rows by columns by channels. -/
theorem turn_in (v : FVec Ideal S128x128x128 .f32) (i j c : Fin 128) :
    transpose S128x128x128 [1, 2, 0] v transposes_S128x128x128_p1_2_0_S128x128x128 (ix3 i j c) = v (ix3 c i j) :=
  transpose_apply _ _ _ _ _ (fun b => by
    match b with
    | ⟨0, _⟩ => rfl
    | ⟨1, _⟩ => rfl
    | ⟨2, _⟩ => rfl)

/-- Rows by columns by channels turned into channels by rows by columns. -/
theorem turn_out (v : FVec Ideal S128x128x128 .f32) (c i j : Fin 128) :
    transpose S128x128x128 [2, 0, 1] v transposes_S128x128x128_p2_0_1_S128x128x128 (ix3 c i j) = v (ix3 i j c) :=
  transpose_apply _ _ _ _ _ (fun b => by
    match b with
    | ⟨0, _⟩ => rfl
    | ⟨1, _⟩ => rfl
    | ⟨2, _⟩ => rfl)

/-- The block of one image without its leading axis. -/
theorem drop_at (x : FVec Ideal S1x128x128x128 .f32) (c i j : Fin 128) :
    shapeCast S128x128x128 x shapeCasts_S1x128x128x128_S128x128x128 (ix3 c i j) = x (ix4 0 c i j) :=
  shapeCast_apply _ _ _ _ (by
    rw [Shape.rowMajor_val_four, Shape.rowMajor_val_three]
    show ((0 * 128 + c.val) * 128 + i.val) * 128 + j.val = (c.val * 128 + i.val) * 128 + j.val
    omega)

/-- The image as it arrives, channels by rows by columns, read as pixels by channels. -/
theorem pay5_at (x : FVec Ideal S1x128x128x128 .f32) (p : Fin 16384) (c : Fin 128) :
    k0_pay5 x (ix2 p c) = x (ix4 0 c (prow p) (pcol p)) := by
  unfold k0_pay5
  exact (pixels_at _ p c).trans ((turn_in _ _ _ _).trans (drop_at x _ _ _))

/-- Pixels by channels stored as the result's block, channels by rows by columns. -/
theorem leave_at (A : FVec Ideal S16384x128 .f32) (c i j : Fin 128) :
    shapeCast S1x128x128x128
      (transpose S128x128x128 [2, 0, 1] (shapeCast S128x128x128 A shapeCasts_S16384x128_S128x128x128)
        transposes_S128x128x128_p2_0_1_S128x128x128) shapeCasts_S128x128x128_S1x128x128x128 (ix4 0 c i j) =
      A (ix2 (pixel i j) c) := by
  refine (shapeCast_apply _ _ _ (ix3 c i j) (by
    rw [Shape.rowMajor_val_four, Shape.rowMajor_val_three]
    show (c.val * 128 + i.val) * 128 + j.val = ((0 * 128 + c.val) * 128 + i.val) * 128 + j.val
    omega)).trans ?_
  exact (turn_out _ _ _ _).trans (grid_at A i j c)

/-- Whether a coordinate has a neighbour before it, as the program's comparison. -/
theorem after_zero : ∀ n : Fin 128, IntOp.cmpi .sgt (BitVec.ofNat 32 n.val) 0#32 = if 0 < n.val then 1#1 else 0#1 := by decide

/-- Whether a coordinate has a neighbour after it, as the program's comparison. -/
theorem before_last : ∀ n : Fin 128, IntOp.cmpi .slt (BitVec.ofNat 32 n.val) 127#32 = if n.val < 127 then 1#1 else 0#1 := by decide

end Cert.Gcn
-- ==== Proof.Gcn.Body.lean ====
module
public import proofs.«01_k».proof.Proof.Gcn.Halo
public import proofs.«01_k».proof.Proof.Gcn.Shapes

/-!
One layer of the kernel

A layer of the kernel runs on one image: the product with the weights and the first scaling, the neighbourhood sum out of the
bordered scratch, the second scaling and the bias, and then normalisation and activation of every pixel.  The theorem at the end
says that this is `layer` of the specification.
-/

@[expose] public section

noncomputable section
namespace Cert.Gcn
open Idealize.ShloMosaic Idealize.ShloMosaic.TcCoe Idealize.ShloMosaic.Tactic Idealize.SL.Sem
open Cert.KernelIdeal Cert.KernelIdeal.Gen

/-! ## The degrees -/

/-- The program's count of a coordinate's neighbours along its axis. -/
theorem count_eq (n : Fin 128) :
    (Ideal.ofBits .f32 0x3F800000#32 + Scalar.select (IntOp.cmpi .sgt (BitVec.ofNat 32 n.val) 0#32)
        (Ideal.ofBits .f32 0x3F800000#32) (Ideal.ofBits .f32 0x00000000#32)) +
      Scalar.select (IntOp.cmpi .slt (BitVec.ofNat 32 n.val) 127#32)
        (Ideal.ofBits .f32 0x3F800000#32) (Ideal.ofBits .f32 0x00000000#32) = (((along n.val : ℕ) : ℝ) : EReal) := by
  have one (a b : EReal) : Scalar.select 1#1 a b = a := rfl
  have zero (a b : EReal) : Scalar.select 0#1 a b = b := rfl
  rw [after_zero, before_last, Ideal.ofBits_one_f32, Ideal.ofBits_zero_f32]
  unfold along
  by_cases h : 0 < n.val <;> by_cases h' : n.val < 127 <;>
    simp only [h, h', if_true, if_false, one, zero]
  · show (1 : EReal) + 1 + 1 = ((((1 + 1 + 1 : ℕ) : ℝ)) : EReal)
    rw [← EReal.coe_one, ← EReal.coe_add, ← EReal.coe_add]; norm_num
  · show (1 : EReal) + 1 + 0 = ((((1 + 1 + 0 : ℕ) : ℝ)) : EReal)
    rw [add_zero, ← EReal.coe_one, ← EReal.coe_add]; norm_num
  · show (1 : EReal) + 0 + 1 = ((((1 + 0 + 1 : ℕ) : ℝ)) : EReal)
    rw [add_zero, ← EReal.coe_one, ← EReal.coe_add]; norm_num
  · omega

/-- The kernel's column of pixels holds the reciprocal square roots of the degrees. -/
theorem pay2_at (p : Fin 16384) :
    k0_pay2 (F := Ideal) (ix2 p 0) = dis (prow p).val (pcol p).val := by
  have key (x y : BitVec 32) (i j : Fin 128) (hx : x = BitVec.ofNat 32 i.val) (hy : y = BitVec.ofNat 32 j.val) :
      Ideal.rsqrt (((Ideal.ofBits .f32 0x3F800000#32 + Scalar.select (IntOp.cmpi .sgt x 0#32)
        (Ideal.ofBits .f32 0x3F800000#32) (Ideal.ofBits .f32 0x00000000#32)) +
      Scalar.select (IntOp.cmpi .slt x 127#32)
        (Ideal.ofBits .f32 0x3F800000#32) (Ideal.ofBits .f32 0x00000000#32)) *
       ((Ideal.ofBits .f32 0x3F800000#32 + Scalar.select (IntOp.cmpi .sgt y 0#32)
        (Ideal.ofBits .f32 0x3F800000#32) (Ideal.ofBits .f32 0x00000000#32)) +
      Scalar.select (IntOp.cmpi .slt y 127#32)
        (Ideal.ofBits .f32 0x3F800000#32) (Ideal.ofBits .f32 0x00000000#32))) = dis i.val j.val := by
    subst hx hy
    rw [count_eq, count_eq]
    unfold dis degree
    rw [Nat.cast_mul, EReal.coe_mul]
  unfold k0_pay2
  refine (shapeCast_apply _ _ _ (ix3 (prow p) (pcol p) 0) (by
    rw [Shape.rowMajor_val_two, Shape.rowMajor_val_three]
    show (p.val / 128 * 128 + p.val % 128) * 1 + 0 = p.val * 1 + 0
    omega)).trans ?_
  exact key _ _ (prow p) (pcol p)
    (by show BitVec.ofNat 32 (0 * 128 + (prow p).val) = _; rw [Nat.zero_mul, Nat.zero_add])
    (by show BitVec.ofNat 32 (0 * 128 + (pcol p).val) = _; rw [Nat.zero_mul, Nat.zero_add])

/-! ## The kernel's steps -/

/-- The product with the weights, scaled, laid out as rows by columns by channels. -/
def scaled (D : FVec Ideal S16384x1 .f32) (A : FVec Ideal S16384x128 .f32) (W : FVec Ideal S128x128 .f32) :
    FVec Ideal S128x128x128 .f32 :=
  shapeCast S128x128x128 (shapeCast S128x128x128
    (mulf (matmul dot_S16384x128_S128x128_S16384x128_1_0_0_1_n_n none A W (constant S16384x128 .f32 0x00000000#32))
      (broadcastTo S16384x128 D broadcasts_S16384x1_S16384x128)) shapeCasts_S16384x128_S128x128x128)
    shapeCasts_S128x128x128_S128x128x128

/-- The column to the left of every pixel. -/
def toLeft (s : FVec Ideal S128x128x128 .f32) : FVec Ideal S128x128x128 .f32 :=
  concatenate S128x128x128 1
    [⟨S128x1x128, broadcast S128x1x128 (Scalar.ofBits .f32 0x00000000#32 : Ideal .f32)⟩,
     ⟨S128x127x128, extractStridedSlice S128x127x128 ![0, 0, 0] s slices_S128x128x128_o0_0_0_S128x127x128⟩]
    concatenates_S128x1x128_S128x127x128_S128x128x128_d1

/-- The column to the right of every pixel. -/
def toRight (s : FVec Ideal S128x128x128 .f32) : FVec Ideal S128x128x128 .f32 :=
  concatenate S128x128x128 1
    [⟨S128x127x128, extractStridedSlice S128x127x128 ![0, 1, 0] s slices_S128x128x128_o0_1_0_S128x127x128⟩,
     ⟨S128x1x128, broadcast S128x1x128 (Scalar.ofBits .f32 0x00000000#32 : Ideal .f32)⟩]
    concatenates_S128x127x128_S128x1x128_S128x128x128_d1

/-- A column sum and its two neighbours, added. -/
def across (s : FVec Ideal S128x128x128 .f32) : FVec Ideal S128x128x128 .f32 := addf (addf s (toLeft s)) (toRight s)

/-- The neighbourhood sum, scaled, and the bias. -/
def convolved (D : FVec Ideal S16384x1 .f32) (a b c : FVec Ideal S128x128x128 .f32) (bias : FVec Ideal S1x128 .f32) :
    FVec Ideal S16384x128 .f32 :=
  addf (mulf (broadcastTo S16384x128 D broadcasts_S16384x1_S16384x128)
      (shapeCast S16384x128 (across (addf (addf a b) c)) shapeCasts_S128x128x128_S16384x128))
    (broadcastTo S16384x128 (shapeCast S1x128 bias shapeCasts_S1x128_S1x128) broadcasts_S1x128_S16384x128)

/-- The mean over the channels, as a column of pixels. -/
def means (V : FVec Ideal S16384x128 .f32) : FVec Ideal S16384x1 .f32 :=
  divf (shapeCast S16384x1 (multiReduction .add [1] S16384 V 0x00000000#32 reduces_S16384x128_S16384 (.inl rfl) rfl)
    shapeCasts_S16384_S16384x1) (broadcast S16384x1 (Scalar.ofBits .f32 0x43000000#32 : Ideal .f32))

/-- Every entry less the mean of its pixel. -/
def centred (V : FVec Ideal S16384x128 .f32) : FVec Ideal S16384x128 .f32 :=
  subf V (broadcastTo S16384x128 (means V) broadcasts_S16384x1_S16384x128)

/-- The reciprocal standard deviation of every pixel. -/
def spreads (d : FVec Ideal S16384x128 .f32) : FVec Ideal S16384x128 .f32 :=
  broadcastTo S16384x128
    (rsqrt (addf (means (mulf d d)) (broadcast S16384x1 (Scalar.ofBits .f32 0x3727C5AC#32 : Ideal .f32))))
    broadcasts_S16384x1_S16384x128

/-- Gain and offset. -/
def affine (d q : FVec Ideal S16384x128 .f32) (g s : FVec Ideal S1x128 .f32) : FVec Ideal S16384x128 .f32 :=
  addf (mulf (mulf d q) (broadcastTo S16384x128 (shapeCast S1x128 g shapeCasts_S1x128_S1x128) broadcasts_S1x128_S16384x128))
    (broadcastTo S16384x128 (shapeCast S1x128 s shapeCasts_S1x128_S1x128) broadcasts_S1x128_S16384x128)

/-- The activation. -/
def activated (y : FVec Ideal S16384x128 .f32) : FVec Ideal S16384x128 .f32 :=
  select (cmpf .ogt y (broadcast S16384x128 (Scalar.ofBits .f32 0x00000000#32 : Ideal .f32))) y
    (subf (exp y) (broadcast S16384x128 (Scalar.ofBits .f32 0x3F800000#32 : Ideal .f32)))

/-- The result's block out of the last layer's pixels by channels. -/
def left (A : FVec Ideal S16384x128 .f32) : FVec Ideal S1x128x128x128 .f32 :=
  shapeCast S1x128x128x128
    (transpose S128x128x128 [2, 0, 1] (shapeCast S128x128x128 A shapeCasts_S16384x128_S128x128x128)
      transposes_S128x128x128_p2_0_1_S128x128x128) shapeCasts_S128x128x128_S1x128x128x128

/-- What follows the scratch in a layer. -/
def finished (d : FVec Ideal S16384x128 .f32) (g s : FVec Ideal S1x128 .f32) : FVec Ideal S16384x128 .f32 :=
  activated (affine d (spreads d) g s)

/-- What a layer takes from its scratch, whose image is `P`. -/
def taken (P : FVec Ideal S128x128x128 .f32) (b : FVec Ideal S1x128 .f32) : FVec Ideal S16384x128 .f32 :=
  centred (convolved (k0_pay2 (F := Ideal)) (shifted 0 P) (shifted 1 P) (shifted 2 P) b)

/-- A layer of the kernel. -/
def step (A : FVec Ideal S16384x128 .f32) (W : FVec Ideal S128x128 .f32) (b g s : FVec Ideal S1x128 .f32) :
    FVec Ideal S16384x128 .f32 :=
  finished (taken (scaled (k0_pay2 (F := Ideal)) A W) b) g s

/-! ## The program's values are these steps -/

/-- The first layer's image. -/
theorem pay6_eq (D : FVec Ideal S16384x1 .f32) (A : FVec Ideal S16384x128 .f32) (W : FVec Ideal S128x128 .f32) :
    k0_pay6 D A W = scaled D A W := rfl

/-- The first layer's centred sums. -/
theorem pay7_eq (D : FVec Ideal S16384x1 .f32) (a b c : FVec Ideal S128x128x128 .f32) (bias : FVec Ideal S1x128 .f32) :
    k0_pay7 D a b c bias = centred (convolved D a b c bias) := rfl

/-- The first layer's end and the second layer's image. -/
theorem pay10_eq (D : FVec Ideal S16384x1 .f32) (a b c : FVec Ideal S128x128x128 .f32) (bias g s : FVec Ideal S1x128 .f32)
    (W : FVec Ideal S128x128 .f32) :
    k0_pay10 D (k0_pay7 D a b c bias) (k0_pay8 D a b c bias) (k0_pay9 (F := Ideal)) g s W =
      scaled D (finished (centred (convolved D a b c bias)) g s) W := rfl

/-- The second layer's sums and end, and the third layer's image. -/
theorem pay16_eq (D : FVec Ideal S16384x1 .f32) (a b c : FVec Ideal S128x128x128 .f32) (bias g s : FVec Ideal S1x128 .f32)
    (W : FVec Ideal S128x128 .f32) :
    k0_pay16 (k0_pay14 D (k0_pay11 a b c) (k0_pay12 (F := Ideal)) (k0_pay13 a b c) bias g s W) (k0_pay15 D) =
      scaled D (finished (centred (convolved D a b c bias)) g s) W := rfl

/-- The third layer's sums and end, and the result's block. -/
theorem pay1_eq (D : FVec Ideal S16384x1 .f32) (a b c : FVec Ideal S128x128x128 .f32) (bias g s : FVec Ideal S1x128 .f32) :
    k0_pay1 (k0_pay17 D a b c bias) (k0_pay18 D a b c bias) g s =
      left (finished (centred (convolved D a b c bias)) g s) := rfl

/-! ## The steps, entry by entry -/

/-- An entry of the scaled product. -/
theorem scaled_at (A : FVec Ideal S16384x128 .f32) (W : FVec Ideal S128x128 .f32) (i j c : Fin 128) :
    scaled (k0_pay2 (F := Ideal)) A W (ix3 i j c) =
      (∑ k : Fin 128, A (ix2 (pixel i j) k) * W (ix2 k c)) * dis i.val j.val := by
  unfold scaled
  rw [shapeCast_self]
  refine (grid_at _ i j c).trans ?_
  refine congrArg₂ (fun x y : EReal => x * y) (product_at A W _ c) ?_
  refine (spread_at _ _ c).trans ((pay2_at _).trans ?_)
  rw [prow_pixel, pcol_pixel]

/-- The kernel's zero column is zero. -/
theorem zero_column (k : S128x1x128.Idx) :
    broadcast S128x1x128 (Scalar.ofBits .f32 0x00000000#32 : Ideal .f32) k = (0 : EReal) := Ideal.ofBits_zero_f32

/-- A number below 128. -/
abbrev wrap (i : ℕ) : Fin 128 := ⟨i % 128, Nat.mod_lt _ (by decide)⟩

/-- A number below 128 is itself. -/
theorem wrap_of_lt {i : ℕ} (h : i < 128) : wrap i = ⟨i, h⟩ := Fin.ext (Nat.mod_eq_of_lt h)

/-- One channel of an image as a function on the grid. -/
def plane (P : FVec Ideal S128x128x128 .f32) (c : Fin 128) (i j : ℕ) : EReal := P (ix3 (wrap i) (wrap j) c)

/-- The rows read out of the bordered scratch. -/
theorem shifted_at (r : ℕ) (P : FVec Ideal S128x128x128 .f32) (i j c : Fin 128) :
    shifted r P (ix3 i j c) = pad (plane P c) (i.val + r) (j.val + 1) := by
  unfold shifted pad
  by_cases h : 1 ≤ i.val + r ∧ i.val + r ≤ 128
  · refine (dif_pos h).trans ?_
    rw [if_pos ⟨h.1, h.2, by omega, by omega⟩]
    unfold plane
    rw [wrap_of_lt (show i.val + r - 1 < 128 by omega), wrap_of_lt (show j.val + 1 - 1 < 128 by omega)]
    rfl
  · refine (dif_neg h).trans ?_
    rw [if_neg (by tauto)]

/-- A sum of three rows of one column. -/
def column (t : ℕ → ℕ → EReal) (i y : ℕ) : EReal := pad t i y + pad t (i + 1) y + pad t (i + 2) y

/-- A column outside the grid sums to zero. -/
theorem column_outside (t : ℕ → ℕ → EReal) (i y : ℕ) (h : y = 0 ∨ y = 129) : column t i y = 0 := by
  have hz (x : ℕ) : pad t x y = 0 := by
    unfold pad
    rw [if_neg (by omega)]
  unfold column
  rw [hz, hz, hz, add_zero, add_zero]

/-- Three columns make the neighbourhood sum. -/
theorem box_columns (t : ℕ → ℕ → EReal) (i j : ℕ) :
    (column t i (j + 1) + column t i j) + column t i (j + 2) = box t i j := by
  unfold column box
  abel

/-- The sum of three rows, entry by entry. -/
theorem rows_at (P : FVec Ideal S128x128x128 .f32) (i j c : Fin 128) :
    addf (addf (shifted 0 P) (shifted 1 P)) (shifted 2 P) (ix3 i j c) = column (plane P c) i.val (j.val + 1) :=
  congrArg₂ (fun x y : EReal => x + y)
    (congrArg₂ (fun x y : EReal => x + y) (shifted_at 0 P i j c) (shifted_at 1 P i j c)) (shifted_at 2 P i j c)

/-- The sum over the neighbourhood, entry by entry. -/
theorem across_at (P : FVec Ideal S128x128x128 .f32) (i j c : Fin 128) :
    across (addf (addf (shifted 0 P) (shifted 1 P)) (shifted 2 P)) (ix3 i j c) = box (plane P c) i.val j.val := by
  rw [← box_columns]
  refine congrArg₂ (fun x y : EReal => x + y) (congrArg₂ (fun x y : EReal => x + y) (rows_at P i j c) ?_) ?_
  · refine (left_at _ zero_column _ i j c).trans ?_
    split
    · rename_i h
      refine (rows_at P i _ c).trans ?_
      show column _ _ (j.val - 1 + 1) = _
      rw [Nat.sub_add_cancel h]
    · exact (column_outside _ _ _ (by omega)).symm
  · refine (right_at _ zero_column _ i j c).trans ?_
    split
    · exact rows_at P i _ c
    · exact (column_outside _ _ _ (by omega)).symm

/-- The convolution, entry by entry. -/
theorem convolved_at (P : FVec Ideal S128x128x128 .f32) (b : FVec Ideal S1x128 .f32) (p : Fin 16384) (c : Fin 128) :
    convolved (k0_pay2 (F := Ideal)) (shifted 0 P) (shifted 1 P) (shifted 2 P) b (ix2 p c) =
      dis (prow p).val (pcol p).val * box (plane P c) (prow p).val (pcol p).val + b (ix2 0 c) :=
  congrArg₂ (fun x y : EReal => x + y)
    (congrArg₂ (fun x y : EReal => x * y) ((spread_at _ p c).trans (pay2_at p))
      ((pixels_at _ p c).trans (across_at P _ _ c))) (lane_at b p c)

/-- The mean of a pixel. -/
theorem means_at (V : FVec Ideal S16384x128 .f32) (p : Fin 16384) : means V (ix2 p 0) = mean fun k => V (ix2 p k) :=
  congrArg (fun x : EReal => Ideal.div x chans) (total_at V p)

/-- An entry less its pixel's mean. -/
theorem centred_at (V : FVec Ideal S16384x128 .f32) (p : Fin 16384) (c : Fin 128) :
    centred V (ix2 p c) = V (ix2 p c) - mean fun k => V (ix2 p k) :=
  congrArg (fun x : EReal => V (ix2 p c) - x) ((spread_at _ p c).trans (means_at V p))

/-- The reciprocal standard deviation of a pixel. -/
theorem spreads_at (V : FVec Ideal S16384x128 .f32) (p : Fin 16384) (c : Fin 128) :
    spreads (centred V) (ix2 p c) = Ideal.rsqrt (variance (fun k => V (ix2 p k)) + eps) := by
  refine (spread_at _ p c).trans (congrArg (fun x : EReal => Ideal.rsqrt (x + eps)) ((means_at _ p).trans ?_))
  unfold variance mean
  refine congrArg (fun x : EReal => Ideal.div x chans) (Finset.sum_congr rfl fun k _ => ?_)
  exact congrArg₂ (fun x y : EReal => x * y) (centred_at V p k) (centred_at V p k)

/-- The end of a layer is normalisation and activation. -/
theorem finished_at (V : FVec Ideal S16384x128 .f32) (g s : FVec Ideal S1x128 .f32) (p : Fin 16384) (c : Fin 128) :
    finished (centred V) g s (ix2 p c) =
      elu (norm (fun k => V (ix2 p k)) (fun k => g (ix2 0 k)) (fun k => s (ix2 0 k)) c) := by
  have hy : affine (centred V) (spreads (centred V)) g s (ix2 p c) =
      norm (fun k => V (ix2 p k)) (fun k => g (ix2 0 k)) (fun k => s (ix2 0 k)) c :=
    congrArg₂ (fun x y : EReal => x + y)
      (congrArg₂ (fun x y : EReal => x * y)
        (congrArg₂ (fun x y : EReal => x * y) (centred_at V p c) (spreads_at V p c)) (lane_at g p c)) (lane_at s p c)
  unfold finished
  generalize affine (centred V) (spreads (centred V)) g s = y at hy
  rw [← hy]
  refine (select_pos (y (ix2 p c)) _ _).trans ?_
  unfold elu
  split
  · rfl
  · exact congrArg (fun x : EReal => Ideal.exp (y (ix2 p c)) - x) Ideal.ofBits_one_f32

/-- Pixels by channels as a function on the grid. -/
def flat (A : FVec Ideal S16384x128 .f32) (i j : ℕ) (c : Fin 128) : EReal := A (ix2 (pixel (wrap i) (wrap j)) c)

/-- A layer of the kernel is a layer of the network. -/
theorem step_at (A : FVec Ideal S16384x128 .f32) (W : FVec Ideal S128x128 .f32) (b g s : FVec Ideal S1x128 .f32)
    (p : Fin 16384) (c : Fin 128) :
    step A W b g s (ix2 p c) =
      layer (flat A) (fun k c => W (ix2 k c)) (fun k => b (ix2 0 k)) (fun k => g (ix2 0 k)) (fun k => s (ix2 0 k))
        (prow p).val (pcol p).val c := by
  refine (finished_at _ g s p c).trans ?_
  unfold layer
  refine congrArg (fun v => elu (norm v _ _ c)) (funext fun k => ?_)
  refine (convolved_at _ b p k).trans ?_
  unfold conv
  refine congrArg (fun x : EReal => dis _ _ * x + _) (box_congr (fun i hi j hj => ?_) _ _)
  unfold plane flat
  refine (scaled_at A W _ _ k).trans ?_
  rw [wrap_of_lt hi, wrap_of_lt hj]

/-- The same on the grid. -/
theorem flat_step (A : FVec Ideal S16384x128 .f32) (W : FVec Ideal S128x128 .f32) (b g s : FVec Ideal S1x128 .f32)
    {i j : ℕ} (hi : i < 128) (hj : j < 128) (c : Fin 128) :
    flat (step A W b g s) i j c =
      layer (flat A) (fun k c => W (ix2 k c)) (fun k => b (ix2 0 k)) (fun k => g (ix2 0 k)) (fun k => s (ix2 0 k)) i j c := by
  refine (step_at A W b g s _ c).trans ?_
  rw [prow_pixel, pcol_pixel, wrap_of_lt hi, wrap_of_lt hj]

/-- Three layers of the kernel on one image are the network. -/
theorem steps_at (x : FVec Ideal S1x128x128x128 .f32)
    (W1 : FVec Ideal S128x128 .f32) (b1 g1 s1 : FVec Ideal S1x128 .f32)
    (W2 : FVec Ideal S128x128 .f32) (b2 g2 s2 : FVec Ideal S1x128 .f32)
    (W3 : FVec Ideal S128x128 .f32) (b3 g3 s3 : FVec Ideal S1x128 .f32) (c i j : Fin 128) :
    left (step (step (step (k0_pay5 x) W1 b1 g1 s1) W2 b2 g2 s2) W3 b3 g3 s3) (ix4 0 c i j) =
      gcn (fun i j c => x (ix4 0 c (wrap i) (wrap j)))
        (fun k c => W1 (ix2 k c)) (fun k => b1 (ix2 0 k)) (fun k => g1 (ix2 0 k)) (fun k => s1 (ix2 0 k))
        (fun k c => W2 (ix2 k c)) (fun k => b2 (ix2 0 k)) (fun k => g2 (ix2 0 k)) (fun k => s2 (ix2 0 k))
        (fun k c => W3 (ix2 k c)) (fun k => b3 (ix2 0 k)) (fun k => g3 (ix2 0 k)) (fun k => s3 (ix2 0 k)) i.val j.val c := by
  refine (leave_at _ c i j).trans ((step_at _ W3 b3 g3 s3 _ c).trans ?_)
  rw [prow_pixel, pcol_pixel]
  unfold gcn
  refine layer_congr (fun i hi j hj k => (flat_step _ W2 b2 g2 s2 hi hj k).trans ?_) _ _ _ _ _ _ _
  refine layer_congr (fun i hi j hj k => (flat_step _ W1 b1 g1 s1 hi hj k).trans ?_) _ _ _ _ _ _ _
  refine layer_congr (fun i hi j hj k => ?_) _ _ _ _ _ _ _
  refine (pay5_at x _ k).trans ?_
  rw [prow_pixel, pcol_pixel]

end Cert.Gcn
-- ==== Proof.Gcn.Block.lean ====
module
public import proofs.«01_k».proof.Proof.Gen.KernelIdeal.Frame
public import proofs.«01_k».proof.Proof.Gcn.Body

/-!
One block of the kernel

Each grid point runs the three layers on one image and writes one block.  The block is the network of that image.
-/

@[expose] public section
set_option maxRecDepth 16384

noncomputable section
namespace Cert.Gcn
open Idealize.ShloMosaic Idealize.ShloMosaic.TcCoe Idealize.ShloMosaic.Tactic Idealize.SL.Sem
open Cert.KernelIdeal Cert.KernelIdeal.Gen

/-- The block a grid point writes is the three layers on the image it reads. -/
theorem block_run (c : Dev nD) (i : grid0.Coords) (arg1 : Memref sig .tc .vmem S1x128x128x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128x128x128 .f32) (harg14 : arg14.IsWhole) (arg15 : Memref sig .tc .vmem S130x128x128 .f32) (harg15 : arg15.IsWhole)
    (x0 : Vec Ideal S1x128x128x128 .f32) (x1 : Vec Ideal S128x128 .f32) (x2 : Vec Ideal S1x128 .f32) (x3 : Vec Ideal S1x128 .f32) (x4 : Vec Ideal S1x128 .f32) (x5 : Vec Ideal S128x128 .f32) (x6 : Vec Ideal S1x128 .f32) (x7 : Vec Ideal S1x128 .f32) (x8 : Vec Ideal S1x128 .f32) (x9 : Vec Ideal S128x128 .f32) (x10 : Vec Ideal S1x128 .f32) (x11 : Vec Ideal S1x128 .f32) (x12 : Vec Ideal S1x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 =
      left (step (step (step (k0_pay5 x0) x1 x2 x3 x4) x5 x6 x7 x8) x9 x10 x11 x12) := by
  unfold out0_A_13
  frame_out
  rw [pay1_eq]
  rw [load_zero _ bordered_border, load_one _ bordered_border, load_two _ bordered_border]
  rw [pay6_eq, pay10_eq]
  rw [load_zero _ (bordered_border.inner _), load_one _ (bordered_border.inner _), load_two _ (bordered_border.inner _)]
  rw [pay16_eq]
  rw [load_zero _ ((bordered_border.inner _).inner _), load_one _ ((bordered_border.inner _).inner _),
    load_two _ ((bordered_border.inner _).inner _)]
  rfl

end Cert.Gcn
-- ==== Proof.Gcn.Edges.lean ====
/- A sum over the edge list of the batched grid is a sum over a 3×3 neighbourhood.

   The list has four blocks of 145924 edges, one per image, and each block nine segments, one per displacement
   `(di, dj)` with `di` and `dj` running through -1, 0, 1. A segment lists, row by row, the pixels of a `h × w`
   rectangle: an edge's source and destination are that pixel displaced by a constant each. -/
module

public import proofs.«01_k».proof.Proof.Gcn.Spec

@[expose] public section

noncomputable section

namespace Cert.Gcn

/-- The edges of one segment, of both endpoints' numbers: `off` edges into every image's block, the edge of
    position `(i, j)` of the `h × w` rectangle goes from pixel number `i * 128 + j + sr` to pixel number
    `i * 128 + j + sc` of the image. -/
def Segment (src dst : ℕ → ℕ) (off h w sr sc : ℕ) : Prop :=
  ∀ b < 4, ∀ i < h, ∀ j < w,
    src (b * 145924 + off + (i * w + j)) = b * 16384 + i * 128 + j + sr
    ∧ dst (b * 145924 + off + (i * w + j)) = b * 16384 + i * 128 + j + sc

/-- The edge list of the batched grid. -/
structure GridEdges (src dst : ℕ → ℕ) : Prop where
  ul : Segment src dst 0 127 127 129 0
  uu : Segment src dst 16129 127 128 128 0
  ur : Segment src dst 32385 127 127 128 1
  ll : Segment src dst 48514 128 127 1 0
  oo : Segment src dst 64770 128 128 0 0
  rr : Segment src dst 81154 128 127 0 1
  dl : Segment src dst 97410 127 127 1 128
  dd : Segment src dst 113539 127 128 0 128
  dr : Segment src dst 129795 127 127 0 129

/-- A position of a segment, as a row and a column of its rectangle. -/
theorem Segment.at {src dst : ℕ → ℕ} {off h w sr sc : ℕ} (s : Segment src dst off h w sr sc) (hw : 0 < w)
    {b k : ℕ} (hb : b < 4) (hk : k < h * w) :
    ∃ i < h, ∃ j < w, k = i * w + j ∧ src (b * 145924 + off + k) = b * 16384 + i * 128 + j + sr
      ∧ dst (b * 145924 + off + k) = b * 16384 + i * 128 + j + sc := by
  have hi : k / w < h := (Nat.div_lt_iff_lt_mul hw).mpr hk
  have hj : k % w < w := Nat.mod_lt _ hw
  have e : k = k / w * w + k % w := (Nat.div_add_mod' k w).symm
  obtain ⟨h1, h2⟩ := s b hb _ hi _ hj
  rw [← e] at h1 h2
  exact ⟨_, hi, _, hj, e, h1, h2⟩

/-- Every edge's endpoints are nodes of the batched grid. -/
theorem GridEdges.bound {src dst : ℕ → ℕ} (g : GridEdges src dst) {e : ℕ} (he : e < 583696) :
    src e < 65536 ∧ dst e < 65536 := by
  obtain ⟨b, k, hb, hk, rfl⟩ : ∃ b k, b < 4 ∧ k < 145924 ∧ e = b * 145924 + k :=
    ⟨e / 145924, e % 145924, by omega, by omega, by omega⟩
  have key {off h w sr sc : ℕ} (s : Segment src dst off h w sr sc) (hw : 0 < w) (hw' : w ≤ 128) (hh : h ≤ 128)
      (hsr : (h - 1) * 128 + (w - 1) + sr < 16384) (hsc : (h - 1) * 128 + (w - 1) + sc < 16384)
      (h0 : off ≤ k) (h1 : k - off < h * w) :
      src (b * 145924 + k) < 65536 ∧ dst (b * 145924 + k) < 65536 := by
    obtain ⟨i, hi, j, hj, -, e1, e2⟩ := s.at hw hb h1
    rw [show b * 145924 + off + (k - off) = b * 145924 + k by omega] at e1 e2
    omega
  rcases Nat.lt_or_ge k 16129 with h1 | h1
  · exact key g.ul (by omega) (by omega) (by omega) (by omega) (by omega) (by omega) (by omega)
  rcases Nat.lt_or_ge k 32385 with h2 | h2
  · exact key g.uu (by omega) (by omega) (by omega) (by omega) (by omega) (by omega) (by omega)
  rcases Nat.lt_or_ge k 48514 with h3 | h3
  · exact key g.ur (by omega) (by omega) (by omega) (by omega) (by omega) (by omega) (by omega)
  rcases Nat.lt_or_ge k 64770 with h4 | h4
  · exact key g.ll (by omega) (by omega) (by omega) (by omega) (by omega) (by omega) (by omega)
  rcases Nat.lt_or_ge k 81154 with h5 | h5
  · exact key g.oo (by omega) (by omega) (by omega) (by omega) (by omega) (by omega) (by omega)
  rcases Nat.lt_or_ge k 97410 with h6 | h6
  · exact key g.rr (by omega) (by omega) (by omega) (by omega) (by omega) (by omega) (by omega)
  rcases Nat.lt_or_ge k 113539 with h7 | h7
  · exact key g.dl (by omega) (by omega) (by omega) (by omega) (by omega) (by omega) (by omega)
  rcases Nat.lt_or_ge k 129795 with h8 | h8
  · exact key g.dd (by omega) (by omega) (by omega) (by omega) (by omega) (by omega) (by omega)
  · exact key g.dr (by omega) (by omega) (by omega) (by omega) (by omega) (by omega) (by omega)

/-- One segment's contribution to a node: the value at the displaced pixel where there is one. The
    displacement takes `(i0, j0)` to `(i0 + ri - ci, j0 + rj - cj)`. -/
theorem segment_sum {src dst : ℕ → ℕ} {off h w sr sc : ℕ} (s : Segment src dst off h w sr sc) (f : ℕ → EReal)
    (ri ci rj cj x y : ℕ) (hsr : sr = ri * 128 + rj) (hsc : sc = ci * 128 + cj)
    (hh : h + ri + ci = 128) (hw : w + rj + cj = 128) (hri : ri + ci ≤ 1) (hrj : rj + cj ≤ 1)
    {b b0 i0 j0 : ℕ} (hb : b < 4) (hi0 : i0 < 128) (hj0 : j0 < 128)
    (hx : x + ci = i0 + 1 + ri) (hy : y + cj = j0 + 1 + rj) :
    (∑ k ∈ Finset.range (h * w),
        if dst (b * 145924 + off + k) = b0 * 16384 + i0 * 128 + j0 then f (src (b * 145924 + off + k)) else 0)
      = if b = b0 then pad (fun x y => f (b0 * 16384 + x * 128 + y)) x y else 0 := by
  have hw0 : 0 < w := by omega
  by_cases hbb : b = b0
  · subst hbb
    rw [if_pos rfl]
    unfold pad
    split
    · rename_i hc
      have hk : (i0 - ci) * w + (j0 - cj) < h * w := by
        have h1 : i0 - ci < h := by omega
        have h2 : j0 - cj < w := by omega
        calc (i0 - ci) * w + (j0 - cj) < (i0 - ci) * w + w := by omega
          _ = (i0 - ci + 1) * w := by ring
          _ ≤ h * w := Nat.mul_le_mul_right _ h1
      obtain ⟨e1, e2⟩ := s b hb (i0 - ci) (by omega) (j0 - cj) (by omega)
      rw [Finset.sum_eq_single ((i0 - ci) * w + (j0 - cj))]
      · rw [e1, e2, if_pos (by omega)]
        exact congrArg f (by omega)
      · intro k hk hne
        obtain ⟨i, hi, j, hj, rfl, -, e2⟩ := s.at hw0 hb (Finset.mem_range.mp hk)
        rw [e2, if_neg]
        intro he
        have h1 : i = i0 - ci := by omega
        have h2 : j = j0 - cj := by omega
        exact hne (by rw [h1, h2])
      · intro hn
        exact absurd (Finset.mem_range.mpr hk) hn
    · rename_i hc
      refine Finset.sum_eq_zero fun k hk => ?_
      obtain ⟨i, hi, j, hj, rfl, -, e2⟩ := s.at hw0 hb (Finset.mem_range.mp hk)
      rw [e2, if_neg (by omega)]
  · rw [if_neg hbb]
    refine Finset.sum_eq_zero fun k hk => ?_
    obtain ⟨i, hi, j, hj, rfl, -, e2⟩ := s.at hw0 hb (Finset.mem_range.mp hk)
    rw [e2, if_neg (by omega)]

/-- A block's sum is the sum of its nine segments' sums. -/
theorem block_split (G : ℕ → EReal) :
    ∑ k ∈ Finset.range 145924, G k
      = ∑ k ∈ Finset.range (127 * 127), G (0 + k) + ∑ k ∈ Finset.range (127 * 128), G (16129 + k)
        + ∑ k ∈ Finset.range (127 * 127), G (32385 + k) + ∑ k ∈ Finset.range (128 * 127), G (48514 + k)
        + ∑ k ∈ Finset.range (128 * 128), G (64770 + k) + ∑ k ∈ Finset.range (128 * 127), G (81154 + k)
        + ∑ k ∈ Finset.range (127 * 127), G (97410 + k) + ∑ k ∈ Finset.range (127 * 128), G (113539 + k)
        + ∑ k ∈ Finset.range (127 * 127), G (129795 + k) := by
  rw [show (145924 : ℕ) = 127 * 127 + 127 * 128 + 127 * 127 + 128 * 127 + 128 * 128 + 128 * 127 + 127 * 127
    + 127 * 128 + 127 * 127 by norm_num]
  simp only [Finset.sum_range_add, Nat.zero_add]

/-- One image's block of edges contributes the neighbourhood sum to its own nodes and nothing to others. -/
theorem block_sum {src dst : ℕ → ℕ} (g : GridEdges src dst) (f : ℕ → EReal) {b b0 i0 j0 : ℕ} (hb : b < 4)
    (hi0 : i0 < 128) (hj0 : j0 < 128) :
    (∑ k ∈ Finset.range 145924,
        if dst (b * 145924 + k) = b0 * 16384 + i0 * 128 + j0 then f (src (b * 145924 + k)) else 0)
      = if b = b0 then box (fun x y => f (b0 * 16384 + x * 128 + y)) i0 j0 else 0 := by
  have s1 := segment_sum g.ul f 1 0 1 0 (i0 + 2) (j0 + 2) (by omega) (by omega) (by omega) (by omega) (by omega)
    (by omega) (b0 := b0) hb hi0 hj0 (by omega) (by omega)
  have s2 := segment_sum g.uu f 1 0 0 0 (i0 + 2) (j0 + 1) (by omega) (by omega) (by omega) (by omega) (by omega)
    (by omega) (b0 := b0) hb hi0 hj0 (by omega) (by omega)
  have s3 := segment_sum g.ur f 1 0 0 1 (i0 + 2) j0 (by omega) (by omega) (by omega) (by omega) (by omega)
    (by omega) (b0 := b0) hb hi0 hj0 (by omega) (by omega)
  have s4 := segment_sum g.ll f 0 0 1 0 (i0 + 1) (j0 + 2) (by omega) (by omega) (by omega) (by omega) (by omega)
    (by omega) (b0 := b0) hb hi0 hj0 (by omega) (by omega)
  have s5 := segment_sum g.oo f 0 0 0 0 (i0 + 1) (j0 + 1) (by omega) (by omega) (by omega) (by omega) (by omega)
    (by omega) (b0 := b0) hb hi0 hj0 (by omega) (by omega)
  have s6 := segment_sum g.rr f 0 0 0 1 (i0 + 1) j0 (by omega) (by omega) (by omega) (by omega) (by omega)
    (by omega) (b0 := b0) hb hi0 hj0 (by omega) (by omega)
  have s7 := segment_sum g.dl f 0 1 1 0 i0 (j0 + 2) (by omega) (by omega) (by omega) (by omega) (by omega)
    (by omega) (b0 := b0) hb hi0 hj0 (by omega) (by omega)
  have s8 := segment_sum g.dd f 0 1 0 0 i0 (j0 + 1) (by omega) (by omega) (by omega) (by omega) (by omega)
    (by omega) (b0 := b0) hb hi0 hj0 (by omega) (by omega)
  have s9 := segment_sum g.dr f 0 1 0 1 i0 j0 (by omega) (by omega) (by omega) (by omega) (by omega)
    (by omega) (b0 := b0) hb hi0 hj0 (by omega) (by omega)
  generalize hT : (fun e => if dst e = b0 * 16384 + i0 * 128 + j0 then f (src e) else (0 : EReal)) = T
  have hT' (e : ℕ) : (if dst e = b0 * 16384 + i0 * 128 + j0 then f (src e) else (0 : EReal)) = T e := by rw [← hT]
  simp only [hT'] at s1 s2 s3 s4 s5 s6 s7 s8 s9 ⊢
  rw [block_split]
  simp only [← Nat.add_assoc] at s1 s2 s3 s4 s5 s6 s7 s8 s9 ⊢
  rw [s1, s2, s3, s4, s5, s6, s7, s8, s9]
  by_cases hbb : b = b0
  · simp only [if_pos hbb]
    unfold box
    simp only [add_assoc]
  · simp only [if_neg hbb, add_zero]

/-- The sum over the whole edge list of the values at the sources of the edges into a node is the sum over
    the node's neighbourhood. -/
theorem edge_sum {src dst : ℕ → ℕ} (g : GridEdges src dst) (f : ℕ → EReal) {b0 i0 j0 : ℕ} (hb : b0 < 4)
    (hi0 : i0 < 128) (hj0 : j0 < 128) :
    (∑ e ∈ Finset.range 583696, if dst e = b0 * 16384 + i0 * 128 + j0 then f (src e) else 0)
      = box (fun x y => f (b0 * 16384 + x * 128 + y)) i0 j0 := by
  have hs (G : ℕ → EReal) : ∑ k ∈ Finset.range 583696, G k
      = ∑ b ∈ Finset.range 4, ∑ k ∈ Finset.range 145924, G (b * 145924 + k) := by
    rw [show (583696 : ℕ) = 145924 + 145924 + 145924 + 145924 by norm_num]
    simp only [Finset.sum_range_add, Finset.sum_range_succ (n := 3), Finset.sum_range_succ (n := 2),
      Finset.sum_range_succ (n := 1), Finset.sum_range_one, Nat.zero_mul, Nat.zero_add, Nat.one_mul]
  rw [hs, Finset.sum_congr rfl fun b h => block_sum g f (Finset.mem_range.mp h) hi0 hj0,
    Finset.sum_ite_eq' (Finset.range 4) b0, if_pos (Finset.mem_range.mpr hb)]

end Cert.Gcn

end

end
-- ==== Proof.Gcn.Pre.lean ====
/- What the precondition says: `edge_index` is the edge list of the batched grid. -/
module

public import proofs.«01_k».proof.Defs
public import proofs.«01_k».proof.Proof.Gen.Pre_grid_edges
public import proofs.«01_k».proof.Proof.Gcn.Edges
public import Idealize.ShloMosaic.Lib.Pipeline.Value
public import Idealize.ShloMosaic.Lib.Pointwise.Index

@[expose] public section

noncomputable section

namespace Cert.Gcn

open Idealize.ShloMosaic Idealize.ShloMosaic.TcCoe Idealize.SL.Sem

/-- An `edge_index` table. -/
abbrev Table := IVec (⟨2, ![2, 583696]⟩ : Shape) 32

/-- Entry `e` of row `r` of an `edge_index` table, as a natural number. -/
def entry (x : Table) (r : Fin 2) (e : ℕ) : ℕ :=
  if h : e < 583696 then (x (ix2 r ⟨e, h⟩)).toNat else 0

/-- One segment of one row: where the comparison of the segment, cut out of the table, with the numbers of the
    rectangle's pixels plus a constant holds everywhere, the row's entries are those numbers. -/
theorem segment_read (x : Table) (r : Fin 2) (off h w n k : ℕ) (hn : n = h * w) (hoff : off + h * w ≤ 145924)
    (hh : h ≤ 128) (hw : w ≤ 128) (hk : k < 16384)
    (c1 : (⟨2, ![2, 583696]⟩ : Shape).ShapeCasts ⟨3, ![2, 4, 145924]⟩)
    (c2 : (⟨3, ![2, 4, 145924]⟩ : Shape).Slices ![0, 0, off] ⟨3, ![2, 4, n]⟩)
    (c3 : (⟨3, ![2, 4, n]⟩ : Shape).ShapeCasts ⟨4, ![2, 4, h, w]⟩)
    (c4 : (⟨4, ![2, 4, h, w]⟩ : Shape).Slices ![r.val, 0, 0, 0] ⟨4, ![1, 4, h, w]⟩)
    (c5 : (⟨4, ![1, 4, h, w]⟩ : Shape).ShapeCasts ⟨3, ![4, h, w]⟩)
    (c6 : (⟨0, ![]⟩ : Shape).BroadcastsInDim (⟨3, ![4, h, w]⟩ : Shape) (![] : Fin 0 → Fin 3))
    (e : cmpi .eq
        (shapeCast (⟨3, ![4, h, w]⟩ : Shape)
          (extractStridedSlice (⟨4, ![1, 4, h, w]⟩ : Shape) ![r.val, 0, 0, 0]
            (shapeCast (⟨4, ![2, 4, h, w]⟩ : Shape)
              (extractStridedSlice (⟨3, ![2, 4, n]⟩ : Shape) ![0, 0, off]
                (shapeCast (⟨3, ![2, 4, 145924]⟩ : Shape) x c1) c2) c3) c4) c5)
        (addi
          (addi
            (addi
              (muli (iotaInDim (⟨3, ![4, h, w]⟩ : Shape) 32 0) (broadcastInDim _ ![] c6 (constantI (⟨0, ![]⟩ : Shape) 32 16384#32)))
              (muli (iotaInDim (⟨3, ![4, h, w]⟩ : Shape) 32 1) (broadcastInDim _ ![] c6 (constantI (⟨0, ![]⟩ : Shape) 32 128#32))))
            (iotaInDim (⟨3, ![4, h, w]⟩ : Shape) 32 2))
          (broadcastInDim _ ![] c6 (constantI (⟨0, ![]⟩ : Shape) 32 (BitVec.ofNat 32 k)))) = fun _ => 1#1) :
    ∀ b < 4, ∀ i < h, ∀ j < w,
      entry x r (b * 145924 + off + (i * w + j)) = b * 16384 + i * 128 + j + k := by
  intro b hb i hi j hj
  have hp : i * w + j < h * w := by
    calc i * w + j < i * w + w := by omega
      _ = (i + 1) * w := by ring
      _ ≤ h * w := Nat.mul_le_mul_right _ hi
  have he : b * 145924 + off + (i * w + j) < 583696 := by omega
  have e' := congrFun e (ix3 ⟨b, hb⟩ ⟨i, hi⟩ ⟨j, hj⟩)
  have e2 : shapeCast (⟨3, ![4, h, w]⟩ : Shape)
          (extractStridedSlice (⟨4, ![1, 4, h, w]⟩ : Shape) ![r.val, 0, 0, 0]
            (shapeCast (⟨4, ![2, 4, h, w]⟩ : Shape)
              (extractStridedSlice (⟨3, ![2, 4, n]⟩ : Shape) ![0, 0, off]
                (shapeCast (⟨3, ![2, 4, 145924]⟩ : Shape) x c1) c2) c3) c4) c5 (ix3 ⟨b, hb⟩ ⟨i, hi⟩ ⟨j, hj⟩)
      = x (ix2 r ⟨b * 145924 + off + (i * w + j), he⟩) := by
    rw [shapeCast_apply _ c5 _ (ix4 0 ⟨b, hb⟩ ⟨i, hi⟩ ⟨j, hj⟩)
      (by rw [Shape.rowMajor_val_four, Shape.rowMajor_val_three]; show ((0 * 4 + b) * h + i) * w + j = (b * h + i) * w + j; ring)]
    rw [extractStridedSlice_apply _ _ c4 _ (ix4 r ⟨b, hb⟩ ⟨i, hi⟩ ⟨j, hj⟩) (fun a => match a with
      | ⟨0, _⟩ => rfl
      | ⟨1, _⟩ => (Nat.zero_add _).symm
      | ⟨2, _⟩ => (Nat.zero_add _).symm
      | ⟨3, _⟩ => (Nat.zero_add _).symm)]
    rw [shapeCast_apply _ c3 _ (ix3 r ⟨b, hb⟩ ⟨i * w + j, hn ▸ hp⟩)
      (by
        rw [Shape.rowMajor_val_four, Shape.rowMajor_val_three]
        show (r.val * 4 + b) * n + (i * w + j) = ((r.val * 4 + b) * h + i) * w + j
        rw [hn]; ring)]
    rw [extractStridedSlice_apply _ _ c2 _ (ix3 r ⟨b, hb⟩ ⟨off + (i * w + j), by omega⟩) (fun a => match a with
      | ⟨0, _⟩ => (Nat.zero_add _).symm
      | ⟨1, _⟩ => (Nat.zero_add _).symm
      | ⟨2, _⟩ => rfl)]
    rw [shapeCast_apply _ c1 _ (ix2 r ⟨b * 145924 + off + (i * w + j), he⟩)
      (by
        rw [Shape.rowMajor_val_three, Shape.rowMajor_val_two]
        show r.val * 583696 + (b * 145924 + off + (i * w + j)) = (r.val * 4 + b) * 145924 + (off + (i * w + j))
        omega)]
  unfold cmpi at e'
  rw [e2] at e'
  have e3 : x (ix2 r ⟨b * 145924 + off + (i * w + j), he⟩)
      = BitVec.ofNat 32 b * 16384#32 + BitVec.ofNat 32 i * 128#32 + BitVec.ofNat 32 j + BitVec.ofNat 32 k := by
    by_contra hne
    have : IntOp.cmpi .eq (x (ix2 r ⟨b * 145924 + off + (i * w + j), he⟩))
      (BitVec.ofNat 32 b * 16384#32 + BitVec.ofNat 32 i * 128#32 + BitVec.ofNat 32 j + BitVec.ofNat 32 k) = 1#1 := e'
    unfold IntOp.cmpi at this
    dsimp only at this
    rw [beq_eq_false_iff_ne.mpr hne] at this
    exact absurd this (by decide)
  unfold entry
  rw [dif_pos he, e3]
  simp only [BitVec.toNat_add, BitVec.toNat_mul, BitVec.toNat_ofNat]
  omega

/-- The precondition: on every device the entries of `edge_index` are the batched grid's edge list. -/
theorem gridEdges_of_pre
    (m : (ℓ : Loc Cert.KernelIdeal.nD Cert.KernelIdeal.τ Cert.KernelIdeal.sig) → Buf (Elt Ideal) ℓ)
    (h : Cert.Pre_KernelIdeal_grid_edges m) (c : Dev Cert.KernelIdeal.nD) :
    GridEdges
      (entry (m ((c.tc : Thread Cert.KernelIdeal.nD Cert.KernelIdeal.τ).loc Cert.KernelIdeal.main_arg1)) 0)
      (entry (m ((c.tc : Thread Cert.KernelIdeal.nD Cert.KernelIdeal.τ).loc Cert.KernelIdeal.main_arg1)) 1) := by
  obtain ⟨h0, h1, h2, h3, h4, h5, h6, h7, h8, h9, h10, h11, h12, h13, h14, h15, h16, h17⟩ := h c
  have ul0 := segment_read (m ((c.tc : Thread Cert.KernelIdeal.nD Cert.KernelIdeal.τ).loc Cert.KernelIdeal.main_arg1))
    0 0 127 127 16129 129 rfl (by omega) (by omega) (by omega) (by omega) _ _ _ _ _ _ h0
  have ul1 := segment_read (m ((c.tc : Thread Cert.KernelIdeal.nD Cert.KernelIdeal.τ).loc Cert.KernelIdeal.main_arg1))
    1 0 127 127 16129 0 rfl (by omega) (by omega) (by omega) (by omega) _ _ _ _ _ _ h1
  have uu0 := segment_read (m ((c.tc : Thread Cert.KernelIdeal.nD Cert.KernelIdeal.τ).loc Cert.KernelIdeal.main_arg1))
    0 16129 127 128 16256 128 rfl (by omega) (by omega) (by omega) (by omega) _ _ _ _ _ _ h2
  have uu1 := segment_read (m ((c.tc : Thread Cert.KernelIdeal.nD Cert.KernelIdeal.τ).loc Cert.KernelIdeal.main_arg1))
    1 16129 127 128 16256 0 rfl (by omega) (by omega) (by omega) (by omega) _ _ _ _ _ _ h3
  have ur0 := segment_read (m ((c.tc : Thread Cert.KernelIdeal.nD Cert.KernelIdeal.τ).loc Cert.KernelIdeal.main_arg1))
    0 32385 127 127 16129 128 rfl (by omega) (by omega) (by omega) (by omega) _ _ _ _ _ _ h4
  have ur1 := segment_read (m ((c.tc : Thread Cert.KernelIdeal.nD Cert.KernelIdeal.τ).loc Cert.KernelIdeal.main_arg1))
    1 32385 127 127 16129 1 rfl (by omega) (by omega) (by omega) (by omega) _ _ _ _ _ _ h5
  have ll0 := segment_read (m ((c.tc : Thread Cert.KernelIdeal.nD Cert.KernelIdeal.τ).loc Cert.KernelIdeal.main_arg1))
    0 48514 128 127 16256 1 rfl (by omega) (by omega) (by omega) (by omega) _ _ _ _ _ _ h6
  have ll1 := segment_read (m ((c.tc : Thread Cert.KernelIdeal.nD Cert.KernelIdeal.τ).loc Cert.KernelIdeal.main_arg1))
    1 48514 128 127 16256 0 rfl (by omega) (by omega) (by omega) (by omega) _ _ _ _ _ _ h7
  have oo0 := segment_read (m ((c.tc : Thread Cert.KernelIdeal.nD Cert.KernelIdeal.τ).loc Cert.KernelIdeal.main_arg1))
    0 64770 128 128 16384 0 rfl (by omega) (by omega) (by omega) (by omega) _ _ _ _ _ _ h8
  have oo1 := segment_read (m ((c.tc : Thread Cert.KernelIdeal.nD Cert.KernelIdeal.τ).loc Cert.KernelIdeal.main_arg1))
    1 64770 128 128 16384 0 rfl (by omega) (by omega) (by omega) (by omega) _ _ _ _ _ _ h9
  have rr0 := segment_read (m ((c.tc : Thread Cert.KernelIdeal.nD Cert.KernelIdeal.τ).loc Cert.KernelIdeal.main_arg1))
    0 81154 128 127 16256 0 rfl (by omega) (by omega) (by omega) (by omega) _ _ _ _ _ _ h10
  have rr1 := segment_read (m ((c.tc : Thread Cert.KernelIdeal.nD Cert.KernelIdeal.τ).loc Cert.KernelIdeal.main_arg1))
    1 81154 128 127 16256 1 rfl (by omega) (by omega) (by omega) (by omega) _ _ _ _ _ _ h11
  have dl0 := segment_read (m ((c.tc : Thread Cert.KernelIdeal.nD Cert.KernelIdeal.τ).loc Cert.KernelIdeal.main_arg1))
    0 97410 127 127 16129 1 rfl (by omega) (by omega) (by omega) (by omega) _ _ _ _ _ _ h12
  have dl1 := segment_read (m ((c.tc : Thread Cert.KernelIdeal.nD Cert.KernelIdeal.τ).loc Cert.KernelIdeal.main_arg1))
    1 97410 127 127 16129 128 rfl (by omega) (by omega) (by omega) (by omega) _ _ _ _ _ _ h13
  have dd0 := segment_read (m ((c.tc : Thread Cert.KernelIdeal.nD Cert.KernelIdeal.τ).loc Cert.KernelIdeal.main_arg1))
    0 113539 127 128 16256 0 rfl (by omega) (by omega) (by omega) (by omega) _ _ _ _ _ _ h14
  have dd1 := segment_read (m ((c.tc : Thread Cert.KernelIdeal.nD Cert.KernelIdeal.τ).loc Cert.KernelIdeal.main_arg1))
    1 113539 127 128 16256 128 rfl (by omega) (by omega) (by omega) (by omega) _ _ _ _ _ _ h15
  have dr0 := segment_read (m ((c.tc : Thread Cert.KernelIdeal.nD Cert.KernelIdeal.τ).loc Cert.KernelIdeal.main_arg1))
    0 129795 127 127 16129 0 rfl (by omega) (by omega) (by omega) (by omega) _ _ _ _ _ _ h16
  have dr1 := segment_read (m ((c.tc : Thread Cert.KernelIdeal.nD Cert.KernelIdeal.τ).loc Cert.KernelIdeal.main_arg1))
    1 129795 127 127 16129 129 rfl (by omega) (by omega) (by omega) (by omega) _ _ _ _ _ _ h17
  exact ⟨fun b hb i hi j hj => ⟨ul0 b hb i hi j hj, ul1 b hb i hi j hj⟩,
    fun b hb i hi j hj => ⟨uu0 b hb i hi j hj, uu1 b hb i hi j hj⟩,
    fun b hb i hi j hj => ⟨ur0 b hb i hi j hj, ur1 b hb i hi j hj⟩,
    fun b hb i hi j hj => ⟨ll0 b hb i hi j hj, ll1 b hb i hi j hj⟩,
    fun b hb i hi j hj => ⟨oo0 b hb i hi j hj, oo1 b hb i hi j hj⟩,
    fun b hb i hi j hj => ⟨rr0 b hb i hi j hj, rr1 b hb i hi j hj⟩,
    fun b hb i hi j hj => ⟨dl0 b hb i hi j hj, dl1 b hb i hi j hj⟩,
    fun b hb i hi j hj => ⟨dd0 b hb i hi j hj, dd1 b hb i hi j hj⟩,
    fun b hb i hi j hj => ⟨dr0 b hb i hi j hj, dr1 b hb i hi j hj⟩⟩

end Cert.Gcn

end

end
-- ==== Proof.Gcn.Scatter.lean ====
/- The reference's gathers and scatters read over the batched grid's edge list: a sum over the updates that land
   at a node is a sum over the node's neighbourhood. -/
module

public import proofs.«01_k».proof.Proof.Gcn.Pre
public import proofs.«01_k».proof.Proof.Gen.ReferenceIdeal
public import proofs.«01_k».proof.Proof.Gen.ReferenceIdeal.Read
public import Idealize.ShloMosaic.Lib.Routing.Ops
public import Idealize.ShloMosaic.Lib.Routing.OpsSet
public import Idealize.ShloMosaic.Lib.Routing.OpsPair
public import Idealize.ShloMosaic.Lib.IdealHost

@[expose] public section

noncomputable section

namespace Cert.Gcn

open Idealize.ShloMosaic Idealize.ShloMosaic.TcCoe Idealize.SL.Sem Idealize.ShloMosaic.Routing
open Cert.ReferenceIdeal Cert.ReferenceIdeal.Gen Cert.ReferenceIdeal.Read

/-! ## Where an update lands -/

/-- An update of the scatter into a vector lands at node `n` exactly when its index, read signed, is `n`. -/
theorem lands_vector (idx : IVec S583696x1 32) (e : Fin 583696) (n : Fin 65536) :
    scatter_S65536_S583696x1_S583696_n_0_0_1.resultIdx? (ix1 e) idx = some (ix1 n)
      ↔ (idx (ix2 e (0 : Fin 1))).toInt = (n.val : Int) := by
  refine (resultIdx?_ix1 scatter_S65536_S583696x1_S583696_n_0_0_1 (ix1 e) idx n).trans ?_
  have hs : scatter_S65536_S583696x1_S583696_n_0_0_1.start (ix1 e) idx 0 = (idx (ix2 e (0 : Fin 1))).toInt := by
    unfold ScatterDims.start
    rw [dif_pos (by decide)]
    refine congrArg (fun j => (idx j).toInt) (funext fun a => Fin.ext ?_)
    match a with
    | ⟨0, _⟩ => rfl
    | ⟨1, _⟩ => rfl
  have hw : scatter_S65536_S583696x1_S583696_n_0_0_1.window (ix1 e) 0 = 0 := by
    unfold ScatterDims.window
    rw [dif_neg (by decide)]
  rw [hs, hw, Int.natCast_zero, add_zero]

/-- An update of the scatter into a matrix lands at row `n`, column `c` exactly when its index, read signed, is
    `n` and its own column is `c`. -/
theorem lands_row (idx : IVec S583696x1 32) (e : Fin 583696) (q : Fin 128) (n : Fin 65536)
    (c : Fin 128) :
    scatter_S65536x128_S583696x1_S583696x128_1_0_0_1.resultIdx? (ix2 e q) idx = some (ix2 n c)
      ↔ (idx (ix2 e (0 : Fin 1))).toInt = (n.val : Int) ∧ q = c := by
  refine (resultIdx?_ix2 scatter_S65536x128_S583696x1_S583696x128_1_0_0_1 (ix2 e q) idx n c).trans ?_
  have hs : scatter_S65536x128_S583696x1_S583696x128_1_0_0_1.start (ix2 e q) idx 0 = (idx (ix2 e (0 : Fin 1))).toInt := by
    unfold ScatterDims.start
    rw [dif_pos (by decide)]
    refine congrArg (fun j => (idx j).toInt) (funext fun a => Fin.ext ?_)
    match a with
    | ⟨0, _⟩ => rfl
    | ⟨1, _⟩ => rfl
  have hs1 : scatter_S65536x128_S583696x1_S583696x128_1_0_0_1.start (ix2 e q) idx 1 = 0 := by
    unfold ScatterDims.start
    rw [dif_neg (by decide)]
  have hw : scatter_S65536x128_S583696x1_S583696x128_1_0_0_1.window (ix2 e q) 0 = 0 := by
    unfold ScatterDims.window
    rw [dif_neg (by decide)]
  have hw1 : scatter_S65536x128_S583696x1_S583696x128_1_0_0_1.window (ix2 e q) 1 = q.val := by
    unfold ScatterDims.window
    rw [dif_pos (by decide)]
    rfl
  rw [hs, hw, hs1, hw1, Int.natCast_zero, add_zero, zero_add, Fin.ext_iff, Int.natCast_inj]

/-- The scatter into a vector, at a node: the operand plus the updates whose index is the node. -/
theorem scatter_vector (x : FVec Ideal S65536 .f32) (idx : IVec S583696x1 32) (u : FVec Ideal S583696 .f32)
    (n : Fin 65536) :
    Host.scatterAdd scatter_S65536_S583696x1_S583696_n_0_0_1 x idx u (ix1 n)
      = x (ix1 n) + ∑ e : Fin 583696, if (idx (ix2 e (0 : Fin 1))).toInt = (n.val : Int) then u (ix1 e) else (0 : EReal) := by
  unfold Host.scatterAdd
  rw [Ideal.hostScatterAdd_def]
  refine congrArg (x (ix1 n) + ·) ?_
  rw [Finset.sum_filter]
  let φ : Fin 583696 ≃ S583696.Idx := ⟨fun e => ix1 e, fun k => k 0, fun _ => rfl, fun k => funext fun a => match a with | ⟨0, _⟩ => rfl⟩
  rw [← Equiv.sum_comp φ]
  refine Finset.sum_congr rfl fun e _ => ?_
  exact if_congr (lands_vector idx e n) rfl rfl

/-- The scatter into a matrix, at a node and a channel. -/
theorem scatter_row (x : FVec Ideal S65536x128 .f32) (idx : IVec S583696x1 32) (u : FVec Ideal S583696x128 .f32)
    (n : Fin 65536) (c : Fin 128) :
    Host.scatterAdd scatter_S65536x128_S583696x1_S583696x128_1_0_0_1 x idx u (ix2 n c)
      = x (ix2 n c) + ∑ e : Fin 583696, if (idx (ix2 e (0 : Fin 1))).toInt = (n.val : Int) then u (ix2 e c) else (0 : EReal) := by
  unfold Host.scatterAdd
  rw [Ideal.hostScatterAdd_def]
  refine congrArg (x (ix2 n c) + ·) ?_
  rw [Finset.sum_filter]
  let φ : Fin 583696 × Fin 128 ≃ S583696x128.Idx :=
    ⟨fun p => ix2 p.1 p.2, fun k => (k 0, k 1), fun _ => rfl, fun k => funext fun a => match a with | ⟨0, _⟩ => rfl | ⟨1, _⟩ => rfl⟩
  rw [← Equiv.sum_comp φ, Fintype.sum_prod_type]
  refine Finset.sum_congr rfl fun e _ => ?_
  have h (q : Fin 128) : (if scatter_S65536x128_S583696x1_S583696x128_1_0_0_1.resultIdx? (φ (e, q)) idx = some (ix2 n c)
      then u (φ (e, q)) else (0 : EReal))
      = if q = c then (if (idx (ix2 e (0 : Fin 1))).toInt = (n.val : Int) then u (ix2 e c) else 0) else 0 := by
    by_cases hq : q = c
    · subst hq
      rw [if_pos rfl]
      exact if_congr ((lands_row idx e q n q).trans (and_iff_left rfl)) rfl rfl
    · rw [if_neg hq, if_neg]
      exact fun h => hq ((lands_row idx e q n c).mp h).2
  simp only [h]
  rw [Finset.sum_ite_eq' Finset.univ c, if_pos (Finset.mem_univ c)]

/-! ## The index tables -/

/-- The row of a table, at an edge. -/
theorem v3_at (x : Table) (e : Fin 583696) : val_main_v3 (F := Ideal) x (ix1 e) = x (ix2 0 e) := by
  rw [val_main_v3_apply, val_main_v2_apply]
  refine congrArg x (funext fun a => Fin.ext ?_)
  match a with
  | ⟨0, _⟩ => rfl
  | ⟨1, _⟩ => show e.val % 583696 = e.val; omega

theorem v5_at (x : Table) (e : Fin 583696) : val_main_v5 (F := Ideal) x (ix1 e) = x (ix2 1 e) := by
  rw [val_main_v5_apply, val_main_v4_apply]
  refine congrArg x (funext fun a => Fin.ext ?_)
  match a with
  | ⟨0, _⟩ => rfl
  | ⟨1, _⟩ => show e.val % 583696 = e.val; omega

/-- An edge's endpoint as its table holds it. -/
theorem entry_eq (x : Table) (r : Fin 2) (e : Fin 583696) : x (ix2 r e) = BitVec.ofNat 32 (entry x r e.val) := by
  unfold entry
  rw [dif_pos e.isLt]
  rw [BitVec.ofNat_toNat, BitVec.setWidth_eq]

theorem entry_toNat (x : Table) (r : Fin 2) (e : Fin 583696) : (x (ix2 r e)).toNat = entry x r e.val := by
  unfold entry
  rw [dif_pos e.isLt]

/-- The index at which the tables are read. -/
theorem col_eq {k : S583696.Idx} {e : Fin 583696} (h : (k 0).val = e.val) : k = ix1 e :=
  funext fun a => match a with | ⟨0, _⟩ => Fin.ext h

section
variable {x : Table} (g : GridEdges (entry x 0) (entry x 1))
include g

/-- Wrapping a negative index leaves an endpoint as it is. -/
theorem src_wrap (e : Fin 583696) (a : BitVec 32) :
    Scalar.select (IntOp.cmpi .slt (x (ix2 0 e)) 0#32) a (x (ix2 0 e)) = BitVec.ofNat 32 (entry x 0 e.val) := by
  rw [wrap_of_lt (x (ix2 0 e)) _ (by rw [entry_toNat]; have := (g.bound e.isLt).1; omega), entry_eq x 0 e]

theorem dst_wrap (e : Fin 583696) (a : BitVec 32) :
    Scalar.select (IntOp.cmpi .slt (x (ix2 1 e)) 0#32) a (x (ix2 1 e)) = BitVec.ofNat 32 (entry x 1 e.val) := by
  rw [wrap_of_lt (x (ix2 1 e)) _ (by rw [entry_toNat]; have := (g.bound e.isLt).2; omega), entry_eq x 1 e]

/-- The table of destinations the degree scatter reads. -/
theorem v12_at (e : Fin 583696) : val_main_v12 (F := Ideal) x (ix2 e 0) = BitVec.ofNat 32 (entry x 1 e.val) := by
  rw [val_main_v12_apply, col_eq (k := idx_main_v12 _) (e := e) rfl, val_main_v11_apply, val_main_v8_apply, v5_at]
  exact dst_wrap g e _

/-- The table of sources the first gather of the normalisation reads. -/
theorem v24_at (e : Fin 583696) : val_main_v24 (F := Ideal) x (ix2 e 0) = BitVec.ofNat 32 (entry x 0 e.val) := by
  rw [val_main_v24_apply, col_eq (k := idx_main_v24 _) (e := e) rfl, val_main_v23_apply, val_main_v20_apply, v3_at]
  exact src_wrap g e _

/-- The table of destinations the second gather of the normalisation reads. -/
theorem v31_at (e : Fin 583696) : val_main_v31 (F := Ideal) x (ix2 e 0) = BitVec.ofNat 32 (entry x 1 e.val) := by
  rw [val_main_v31_apply, col_eq (k := idx_main_v31 _) (e := e) rfl, val_main_v30_apply, val_main_v27_apply, v5_at]
  exact dst_wrap g e _

/-- The table of sources the gather of rows reads. -/
theorem v40_at (e : Fin 583696) : val_main_v40 (F := Ideal) x (ix2 e 0) = BitVec.ofNat 32 (entry x 0 e.val) := by
  rw [val_main_v40_apply, col_eq (k := idx_main_v40 _) (e := e) rfl, val_main_v39_apply, val_main_v36_apply, v3_at]
  exact src_wrap g e _

/-- The table of destinations the scatter of rows reads. -/
theorem v51_at (e : Fin 583696) : val_main_v51 (F := Ideal) x (ix2 e 0) = BitVec.ofNat 32 (entry x 1 e.val) := by
  rw [val_main_v51_apply, col_eq (k := idx_main_v51 _) (e := e) rfl, val_main_v50_apply, val_main_v47_apply, v5_at]
  exact dst_wrap g e _

/-! ## What lands at a node -/

/-- The updates that land at a node, summed: the sum over its neighbourhood of what their sources give. -/
theorem land_sum (idx : IVec S583696x1 32) (hidx : ∀ e : Fin 583696, idx (ix2 e 0) = BitVec.ofNat 32 (entry x 1 e.val))
    (U : Fin 583696 → EReal) (f : ℕ → EReal) {b i j : ℕ} (hb : b < 4) (hi : i < 128) (hj : j < 128) {n : Fin 65536}
    (hn : n.val = b * 16384 + i * 128 + j) (hU : ∀ e : Fin 583696, entry x 1 e.val = n.val → U e = f (entry x 0 e.val)) :
    (∑ e : Fin 583696, if (idx (ix2 e (0 : Fin 1))).toInt = (n.val : Int) then U e else (0 : EReal))
      = box (fun x y => f (b * 16384 + x * 128 + y)) i j := by
  rw [← edge_sum g f hb hi hj, Finset.sum_range]
  refine Finset.sum_congr rfl fun e _ => ?_
  have hlt := (g.bound e.isLt).2
  have h : (idx (ix2 e (0 : Fin 1))).toInt = ((entry x 1 e.val : ℕ) : Int) := by
    rw [hidx, BitVec.toInt_eq_toNat_of_lt (by rw [BitVec.toNat_ofNat]; omega), BitVec.toNat_ofNat,
      Nat.mod_eq_of_lt (by omega)]
  rw [h, ← hn]
  by_cases hc : entry x 1 e.val = n.val
  · rw [if_pos (by exact_mod_cast hc), if_pos hc, hU e hc]
  · rw [if_neg (by exact_mod_cast hc), if_neg hc]

/-- The degree of a node. -/
theorem v14_at {b i j : ℕ} (hb : b < 4) (hi : i < 128) (hj : j < 128) {n : Fin 65536}
    (hn : n.val = b * 16384 + i * 128 + j) :
    val_main_v14 (F := Ideal) x (ix1 n) = (((degree i j : ℕ) : ℝ) : EReal) := by
  unfold val_main_v14
  rw [scatter_vector, land_sum g _ (v12_at g) (fun e => val_main_v13 (F := Ideal) (ix1 e)) (fun _ => 1) hb hi hj hn,
    box_one hi hj]
  · rw [val_main_v6_apply, val_main_cst_apply]
    simp
  · intro e _
    show val_main_v13 (F := Ideal) (ix1 e) = 1
    rw [val_main_v13_apply, val_main_cst_1_apply]
    exact Ideal.ofBits_one_f32

/-- The reciprocal square root of a node's degree. -/
theorem v18_at {b i j : ℕ} (hb : b < 4) (hi : i < 128) (hj : j < 128) {n : Fin 65536}
    (hn : n.val = b * 16384 + i * 128 + j) :
    val_main_v18 (F := Ideal) x (ix1 n) = dis i j := by
  have hd : (0 : EReal) < (((degree i j : ℕ) : ℝ) : EReal) := by exact_mod_cast degree_pos i j
  rw [val_main_v18_apply, val_main_v16_apply, val_main_v17_apply, v14_at g hb hi hj hn, val_main_v15_apply,
    val_main_cst_2_apply]
  show Scalar.select (BitVec.ofBool (decide (Ideal.ofBits .f32 0x00000000#32 < (((degree i j : ℕ) : ℝ) : EReal)))) (dis i j) _ = dis i j
  rw [Ideal.ofBits_zero_f32, decide_eq_true hd]
  rfl

/-! ## The aggregation -/

/-- The matrix whose rows are the nodes of the batched grid, read at image `b`, pixel `(i, j)` and channel `c`. -/
def img (A : FVec Ideal S65536x128 .f32) (b i j : ℕ) (c : Fin 128) : EReal :=
  A (ix2 ⟨(b * 16384 + i * 128 + j) % 65536, Nat.mod_lt _ (by omega)⟩ c)

/-- A matrix of weights as a function of its row and column. -/
def mat (W : FVec Ideal S128x128 .f32) (k c : Fin 128) : EReal := W (ix2 k c)

/-- A vector over the channels as a function. -/
def vec (v : FVec Ideal S128 .f32) (c : Fin 128) : EReal := v (ix1 c)

/-- The reciprocal square root of a node's degree by the node's number. -/
def nodeDis (n : ℕ) : EReal := dis (n / 128 % 128) (n % 128)

theorem v18_node (n : Fin 65536) : val_main_v18 (F := Ideal) x (ix1 n) = nodeDis n.val := by
  have := n.isLt
  exact v18_at g (b := n.val / 16384) (i := n.val / 128 % 128) (j := n.val % 128) (by omega) (by omega) (by omega) (by omega)

/-- The edge's normalisation: its endpoints' reciprocal square roots multiplied. -/
theorem v33_at (e : Fin 583696) :
    val_main_v33 (F := Ideal) x (ix1 e) = nodeDis (entry x 0 e.val) * nodeDis (entry x 1 e.val) := by
  have h25 : val_main_v25 (F := Ideal) x (ix1 e) = nodeDis (entry x 0 e.val) := by
    unfold val_main_v25
    exact (gather_take1 gather_S65536_S583696x1_S583696_n_0_n_n_0_1_1 rfl rfl rfl rfl _ _ e ⟨_, (g.bound e.isLt).1⟩
      (v24_at g e) (by omega)).trans (v18_node g _)
  have h32 : val_main_v32 (F := Ideal) x (ix1 e) = nodeDis (entry x 1 e.val) := by
    unfold val_main_v32
    exact (gather_take1 gather_S65536_S583696x1_S583696_n_0_n_n_0_1_1 rfl rfl rfl rfl _ _ e ⟨_, (g.bound e.isLt).2⟩
      (v31_at g e) (by omega)).trans (v18_node g _)
  rw [val_main_v33_apply, h25, h32]
  rfl

omit g in
/-- The product of the features by the weights, at a node and a channel. -/
theorem v34_at (x0 : FVec Ideal S4x128x128x128 .f32) (W : FVec Ideal S128x128 .f32) (n : Fin 65536) (c : Fin 128) :
    val_main_v34 (F := Ideal) x0 W (ix2 n c) = ∑ k : Fin 128, val_main_v1 (F := Ideal) x0 (ix2 n k) * mat W k c := by
  rw [val_main_v34_apply]
  refine Finset.sum_congr rfl fun k _ => ?_
  have h1 : lidx_main_v34 (ix2 n c) k = ix2 n k := funext fun a => match a with | ⟨0, _⟩ => rfl | ⟨1, _⟩ => rfl
  have h2 : ridx_main_v34 (ix2 n c) k = ix2 k c := funext fun a => match a with | ⟨0, _⟩ => rfl | ⟨1, _⟩ => rfl
  rw [h1, h2]
  rfl

/-- The message along an edge. -/
theorem v44_at (x0 : FVec Ideal S4x128x128x128 .f32) (W : FVec Ideal S128x128 .f32) (e : Fin 583696) (c : Fin 128) :
    val_main_v44 (F := Ideal) x0 x W (ix2 e c)
      = (∑ k : Fin 128, val_main_v1 (F := Ideal) x0 (ix2 ⟨entry x 0 e.val, (g.bound e.isLt).1⟩ k) * mat W k c)
        * (nodeDis (entry x 0 e.val) * nodeDis (entry x 1 e.val)) := by
  have h41 : val_main_v41 (F := Ideal) x0 x W (ix2 e c)
      = val_main_v34 (F := Ideal) x0 W (ix2 ⟨entry x 0 e.val, (g.bound e.isLt).1⟩ c) := by
    unfold val_main_v41
    exact gather_row gather_S65536x128_S583696x1_S583696x128_1_0_n_n_0_1_1128 rfl rfl rfl rfl rfl _ _ e c
      ⟨_, (g.bound e.isLt).1⟩ (v40_at g e) (by omega)
  have h43 : val_main_v43 (F := Ideal) x (ix2 e c) = val_main_v33 (F := Ideal) x (ix1 e) := by
    rw [val_main_v43_apply, val_main_v42_apply, col_eq (k := idx_main_v42 _) (e := e) rfl]
  rw [val_main_v44_apply, h41, h43, v33_at g, v34_at]
  rfl

/-- The aggregation of a layer, at a node and a channel: the symmetric normalisation of the neighbourhood's sum. -/
theorem v52_at (x0 : FVec Ideal S4x128x128x128 .f32) (W : FVec Ideal S128x128 .f32) {b i j : ℕ} (hb : b < 4)
    (hi : i < 128) (hj : j < 128) (c : Fin 128) :
    img (val_main_v52 (F := Ideal) x0 x W) b i j c
      = dis i j * box (fun p q => (∑ k, img (val_main_v1 (F := Ideal) x0) b p q k * mat W k c) * dis p q) i j := by
  have hn : (b * 16384 + i * 128 + j) % 65536 = b * 16384 + i * 128 + j := Nat.mod_eq_of_lt (by omega)
  unfold img val_main_v52
  rw [scatter_row, land_sum g _ (v51_at g) (fun e => val_main_v44 (F := Ideal) x0 x W (ix2 e c))
    (fun n => (∑ k : Fin 128, val_main_v1 (F := Ideal) x0 (ix2 ⟨n % 65536, Nat.mod_lt _ (by omega)⟩ k) * mat W k c)
        * (nodeDis n * dis i j)) hb hi hj hn]
  · rw [val_main_v45_apply, val_main_cst_10_apply]
    show Ideal.ofBits .f32 0x00000000#32 + _ = _
    rw [Ideal.ofBits_zero_f32, zero_add, ← box_mul _ (dis_nonneg i j) (dis_ne_top i j)]
    refine box_congr (fun p hp q hq => ?_) i j
    have h1 : nodeDis (b * 16384 + p * 128 + q) = dis p q := by
      unfold nodeDis
      rw [show (b * 16384 + p * 128 + q) / 128 % 128 = p by omega, show (b * 16384 + p * 128 + q) % 128 = q by omega]
    rw [h1, mul_assoc]
  · intro e he
    show val_main_v44 (F := Ideal) x0 x W (ix2 e c) = _
    rw [v44_at g]
    have h1 : nodeDis ((b * 16384 + i * 128 + j) % 65536) = dis i j := by
      unfold nodeDis
      rw [show (b * 16384 + i * 128 + j) % 65536 / 128 % 128 = i by omega,
        show (b * 16384 + i * 128 + j) % 65536 % 128 = j by omega]
    have h3 : nodeDis (entry x 1 e.val) = dis i j := by rw [he]; exact h1
    have h2 : (⟨entry x 0 e.val, (g.bound e.isLt).1⟩ : Fin 65536)
        = ⟨entry x 0 e.val % 65536, Nat.mod_lt _ (by omega)⟩ :=
      Fin.ext (Nat.mod_eq_of_lt (g.bound e.isLt).1).symm
    rw [h3, h2]

end

end Cert.Gcn

end

end
-- ==== Proof.Gcn.Reference.lean ====
/-
Proof/Gcn/Reference.lean: what the reference computes. One layer of the reference is `layer`, and the three
layers are the same function of their features, so the second and third are read from the first.
-/
module

public import proofs.«01_k».proof.Proof.Gcn.Scatter
@[expose] public section

noncomputable section

namespace Cert.Gcn

open Idealize.ShloMosaic Idealize.ShloMosaic.TcCoe Idealize.SL.Sem Idealize.ShloMosaic.Routing
open Cert.ReferenceIdeal Cert.ReferenceIdeal.Gen Cert.ReferenceIdeal.Read

/-- A row of a matrix over the nodes. -/
def row (A : FVec Ideal S65536x128 .f32) (n : Fin 65536) (c : Fin 128) : EReal := A (ix2 n c)

section
variable (x0 : FVec Ideal S4x128x128x128 .f32) (x : Table) (W : FVec Ideal S128x128 .f32)
  (b g s : FVec Ideal S128 .f32)

/-- The mean over the channels of a node. -/
theorem v59_at (n : Fin 65536) :
    val_main_v59 (F := Ideal) x0 x W b (ix2 n 0) = mean (row (val_main_v55 (F := Ideal) x0 x W b) n) := by
  have h56 : val_main_v57 (F := Ideal) x0 x W b (ix2 n 0) = ∑ k, row (val_main_v55 (F := Ideal) x0 x W b) n k := by
    rw [val_main_v57_apply, val_main_v56_apply, val_main_cst_13_apply]
    show Ideal.ofBits .f32 0x00000000#32 + _ = _
    rw [Ideal.ofBits_zero_f32, zero_add]
    refine Finset.sum_congr rfl fun k _ => congrArg _ ?_
    exact funext fun a => match a with | ⟨0, _⟩ => rfl | ⟨1, _⟩ => rfl
  rw [val_main_v59_apply, h56, val_main_v58_apply]
  rfl

/-- A feature less the mean of its node. -/
theorem v61_at (n : Fin 65536) (c : Fin 128) :
    val_main_v61 (F := Ideal) x0 x W b (ix2 n c)
      = row (val_main_v55 (F := Ideal) x0 x W b) n c - mean (row (val_main_v55 (F := Ideal) x0 x W b) n) := by
  have h : idx_main_v60 (ix2 n c) = ix2 n 0 := funext fun a => match a with | ⟨0, _⟩ => rfl | ⟨1, _⟩ => rfl
  rw [val_main_v61_apply, val_main_v60_apply, h, v59_at]
  rfl

/-- The variance over the channels of a node. -/
theorem v66_at (n : Fin 65536) :
    val_main_v66 (F := Ideal) x0 x W b (ix2 n 0) = variance (row (val_main_v55 (F := Ideal) x0 x W b) n) := by
  have h64 : val_main_v64 (F := Ideal) x0 x W b (ix2 n 0)
      = ∑ k, (row (val_main_v55 (F := Ideal) x0 x W b) n k - mean (row (val_main_v55 (F := Ideal) x0 x W b) n))
          * (row (val_main_v55 (F := Ideal) x0 x W b) n k - mean (row (val_main_v55 (F := Ideal) x0 x W b) n)) := by
    rw [val_main_v64_apply, val_main_v63_apply, val_main_cst_15_apply]
    show Ideal.ofBits .f32 0x00000000#32 + _ = _
    rw [Ideal.ofBits_zero_f32, zero_add]
    refine Finset.sum_congr rfl fun k _ => ?_
    have h : idx_main_v63 (idx_main_v64 (ix2 n 0)) k = ix2 n k :=
      funext fun a => match a with | ⟨0, _⟩ => rfl | ⟨1, _⟩ => rfl
    rw [h, val_main_v62_apply, v61_at]
    rfl
  rw [val_main_v66_apply, h64, val_main_v65_apply]
  rfl

/-- The normalised features of a node. -/
theorem v79_at (n : Fin 65536) (c : Fin 128) :
    val_main_v79 (F := Ideal) x0 x W b g s (ix2 n c)
      = norm (row (val_main_v55 (F := Ideal) x0 x W b) n) (vec g) (vec s) c := by
  have h67 : idx_main_v67 (ix2 n c) = ix2 n 0 := funext fun a => match a with | ⟨0, _⟩ => rfl | ⟨1, _⟩ => rfl
  have h72 : idx_main_v72 (ix2 n c) = ix2 n 0 := funext fun a => match a with | ⟨0, _⟩ => rfl | ⟨1, _⟩ => rfl
  have hg : idx_main_v74 (idx_main_v75 (ix2 n c)) = ix1 c := funext fun a => match a with | ⟨0, _⟩ => rfl
  have hs : idx_main_v77 (idx_main_v78 (ix2 n c)) = ix1 c := funext fun a => match a with | ⟨0, _⟩ => rfl
  rw [val_main_v79_apply, val_main_v76_apply, val_main_v73_apply, val_main_v68_apply, val_main_v67_apply, h67, v59_at,
    val_main_v72_apply, h72, val_main_v71_apply, val_main_v70_apply, v66_at, val_main_v69_apply, val_main_cst_17_apply, val_main_v75_apply,
    val_main_v74_apply, hg, val_main_v78_apply, val_main_v77_apply, hs]
  show Ideal.div (row (val_main_v55 (F := Ideal) x0 x W b) n c - mean (row (val_main_v55 (F := Ideal) x0 x W b) n))
      (Ideal.sqrt (variance (row (val_main_v55 (F := Ideal) x0 x W b) n) + eps)) * vec g c + vec s c = _
  exact norm_quotient _ _ _ _

/-- The activation of a node's features. -/
theorem v80_at (n : Fin 65536) (c : Fin 128) :
    val_main_v80 (F := Ideal) x0 x W b g s (ix2 n c)
      = elu (norm (row (val_main_v55 (F := Ideal) x0 x W b) n) (vec g) (vec s) c) := by
  rw [val_main_v80_apply, val_main_call1_v7_apply, val_main_call1_v6_apply, val_main_call1_v5_apply,
    val_main_call1_v4_apply, val_main_call1_v3_apply, val_main_call1_v1_apply, val_main_call1_v2_apply,
    val_main_call1_v0_apply, val_main_call1_call0_v1_apply, v79_at, val_main_call1_cst_apply,
    val_main_call1_cst_0_apply, val_main_call1_cst_2_apply, val_main_call1_call0_v0_apply, val_main_call1_cst_1_apply]
  generalize norm (row (val_main_v55 (F := Ideal) x0 x W b) n) (vec g) (vec s) c = y
  show Scalar.select (Ideal.cmp .ogt y (Ideal.ofBits .f32 0x00000000#32)) y
    (Ideal.ofBits .f32 0x3F800000#32 * Ideal.expm1 (Scalar.select (Ideal.cmp .ogt y (Ideal.ofBits .f32 0x00000000#32))
      (Ideal.ofBits .f32 0x00000000#32) y)) = _
  rw [select_pos, select_pos, Ideal.ofBits_one_f32, Ideal.ofBits_zero_f32]
  exact elu_two_selects _
end

section
variable {x : Table} (g : GridEdges (entry x 0) (entry x 1))
include g

/-- The convolution of the first layer. -/
theorem v55_at (x0 : FVec Ideal S4x128x128x128 .f32) (W : FVec Ideal S128x128 .f32) (b : FVec Ideal S128 .f32)
    {m i j : ℕ} (hm : m < 4) (hi : i < 128) (hj : j < 128) (c : Fin 128) :
    img (val_main_v55 (F := Ideal) x0 x W b) m i j c
      = conv (img (val_main_v1 (F := Ideal) x0) m) (mat W) (vec b) i j c := by
  unfold conv
  rw [← v52_at g x0 W hm hi hj c]
  unfold img
  have h : idx_main_v53 (idx_main_v54 (ix2 ⟨(m * 16384 + i * 128 + j) % 65536, Nat.mod_lt _ (by omega)⟩ c)) = ix1 c :=
    funext fun a => match a with | ⟨0, _⟩ => rfl
  rw [val_main_v55_apply, val_main_v54_apply, val_main_v53_apply, h]
  rfl

/-- The first layer of the reference. -/
theorem v80_layer (x0 : FVec Ideal S4x128x128x128 .f32) (W : FVec Ideal S128x128 .f32) (b gn s : FVec Ideal S128 .f32)
    {m i j : ℕ} (hm : m < 4) (hi : i < 128) (hj : j < 128) (c : Fin 128) :
    img (val_main_v80 (F := Ideal) x0 x W b gn s) m i j c
      = layer (img (val_main_v1 (F := Ideal) x0) m) (mat W) (vec b) (vec gn) (vec s) i j c := by
  unfold layer
  have h : conv (img (val_main_v1 (F := Ideal) x0) m) (mat W) (vec b) i j
      = row (val_main_v55 (F := Ideal) x0 x W b) ⟨(m * 16384 + i * 128 + j) % 65536, Nat.mod_lt _ (by omega)⟩ :=
    funext fun k => (v55_at g x0 W b hm hi hj k).symm
  rw [h]
  exact v80_at x0 x W b gn s _ c
end

/-! ## The second and third layers -/

/-- The batch of images whose nodes are the rows of a matrix. -/
def images (h : FVec Ideal S65536x128 .f32) : FVec Ideal S4x128x128x128 .f32 := fun k =>
  h (ix2 ⟨((k 0).val * 16384 + (k 2).val * 128 + (k 3).val) % 65536, Nat.mod_lt _ (by omega)⟩ (k 1))

/-- The nodes of an image, at a pixel and a channel. -/
theorem v1_at (x0 : FVec Ideal S4x128x128x128 .f32) (n : Fin 65536) (c : Fin 128) :
    val_main_v1 (F := Ideal) x0 (ix2 n c)
      = x0 (ix4 ⟨n.val / 16384, by omega⟩ c ⟨n.val / 128 % 128, by omega⟩ ⟨n.val % 128, by omega⟩) := by
  rw [val_main_v1_apply, val_main_v0_apply]
  refine congrArg x0 (funext fun a => Fin.ext ?_)
  have hn := n.isLt
  have hc := c.isLt
  match a with
  | ⟨0, _⟩ => show (n.val * 128 + c.val) / 2097152 = n.val / 16384; omega
  | ⟨1, _⟩ => show (n.val * 128 + c.val) % 128 = c.val; omega
  | ⟨2, _⟩ => show (n.val * 128 + c.val) / 16384 % 128 = n.val / 128 % 128; omega
  | ⟨3, _⟩ => show (n.val * 128 + c.val) / 128 % 128 = n.val % 128; omega

theorem v1_images (h : FVec Ideal S65536x128 .f32) : val_main_v1 (F := Ideal) (images h) = h := by
  funext k
  have hk : k = ix2 (n0 := 65536) (n1 := 128) (k 0) (k 1) := funext fun a => match a with | ⟨0, _⟩ => rfl | ⟨1, _⟩ => rfl
  rw [hk]
  refine (v1_at (images h) _ _).trans ?_
  show h (ix2 _ _) = h _
  refine congrArg h (funext fun a => Fin.ext ?_)
  have := (k 0).isLt
  match a with
  | ⟨0, _⟩ =>
    show ((k 0).val / 16384 * 16384 + (k 0).val / 128 % 128 * 128 + (k 0).val % 128) % 65536 = (k 0).val
    have : (k 0).val < 65536 := (k 0).isLt
    omega
  | ⟨1, _⟩ => rfl

section
variable (x0 : FVec Ideal S4x128x128x128 .f32) (x1 : Table) (x2 x6 : FVec Ideal S128x128 .f32)
  (x3 x4 x5 x7 x8 x9 : FVec Ideal S128 .f32)

theorem second_v34 : val_main_v81 (F := Ideal) x0 x1 x2 x3 x4 x5 x6
    = val_main_v34 (F := Ideal) (images (val_main_v80 (F := Ideal) x0 x1 x2 x3 x4 x5)) x6 := by
  unfold val_main_v81 val_main_v34
  rw [v1_images]

theorem second_v41 : val_main_v88 (F := Ideal) x0 x1 x2 x3 x4 x5 x6
    = val_main_v41 (F := Ideal) (images (val_main_v80 (F := Ideal) x0 x1 x2 x3 x4 x5)) x1 x6 := by
  unfold val_main_v88 val_main_v41
  rw [second_v34]
  rfl

theorem second_v44 : val_main_v91 (F := Ideal) x0 x1 x2 x3 x4 x5 x6
    = val_main_v44 (F := Ideal) (images (val_main_v80 (F := Ideal) x0 x1 x2 x3 x4 x5)) x1 x6 := by
  unfold val_main_v91 val_main_v44
  rw [second_v41]
  rfl

theorem second_v52 : val_main_v99 (F := Ideal) x0 x1 x2 x3 x4 x5 x6
    = val_main_v52 (F := Ideal) (images (val_main_v80 (F := Ideal) x0 x1 x2 x3 x4 x5)) x1 x6 := by
  unfold val_main_v99 val_main_v52
  rw [second_v44]
  rfl

theorem second_v55 : val_main_v102 (F := Ideal) x0 x1 x2 x3 x4 x5 x6 x7
    = val_main_v55 (F := Ideal) (images (val_main_v80 (F := Ideal) x0 x1 x2 x3 x4 x5)) x1 x6 x7 := by
  unfold val_main_v102 val_main_v55
  rw [second_v52]
  rfl

theorem second_v56 : val_main_v103 (F := Ideal) x0 x1 x2 x3 x4 x5 x6 x7
    = val_main_v56 (F := Ideal) (images (val_main_v80 (F := Ideal) x0 x1 x2 x3 x4 x5)) x1 x6 x7 := by
  unfold val_main_v103 val_main_v56
  rw [second_v55]
  rfl

theorem second_v59 : val_main_v106 (F := Ideal) x0 x1 x2 x3 x4 x5 x6 x7
    = val_main_v59 (F := Ideal) (images (val_main_v80 (F := Ideal) x0 x1 x2 x3 x4 x5)) x1 x6 x7 := by
  unfold val_main_v106 val_main_v104 val_main_v59 val_main_v57
  rw [second_v56]
  rfl

theorem second_v61 : val_main_v108 (F := Ideal) x0 x1 x2 x3 x4 x5 x6 x7
    = val_main_v61 (F := Ideal) (images (val_main_v80 (F := Ideal) x0 x1 x2 x3 x4 x5)) x1 x6 x7 := by
  unfold val_main_v108 val_main_v107 val_main_v61 val_main_v60
  rw [second_v55, second_v59]

theorem second_v66 : val_main_v113 (F := Ideal) x0 x1 x2 x3 x4 x5 x6 x7
    = val_main_v66 (F := Ideal) (images (val_main_v80 (F := Ideal) x0 x1 x2 x3 x4 x5)) x1 x6 x7 := by
  unfold val_main_v113 val_main_v111 val_main_v110 val_main_v109 val_main_v66 val_main_v64 val_main_v63 val_main_v62
  rw [second_v61]
  rfl

theorem second_v68 : val_main_v115 (F := Ideal) x0 x1 x2 x3 x4 x5 x6 x7
    = val_main_v68 (F := Ideal) (images (val_main_v80 (F := Ideal) x0 x1 x2 x3 x4 x5)) x1 x6 x7 := by
  unfold val_main_v115 val_main_v114 val_main_v68 val_main_v67
  rw [second_v55, second_v59]

theorem second_v73 : val_main_v120 (F := Ideal) x0 x1 x2 x3 x4 x5 x6 x7
    = val_main_v73 (F := Ideal) (images (val_main_v80 (F := Ideal) x0 x1 x2 x3 x4 x5)) x1 x6 x7 := by
  unfold val_main_v120 val_main_v119 val_main_v118 val_main_v117 val_main_v73 val_main_v72 val_main_v71 val_main_v70
  rw [second_v68, second_v66]
  rfl

theorem second_v79 : val_main_v126 (F := Ideal) x0 x1 x2 x3 x4 x5 x6 x7 x8 x9
    = val_main_v79 (F := Ideal) (images (val_main_v80 (F := Ideal) x0 x1 x2 x3 x4 x5)) x1 x6 x7 x8 x9 := by
  unfold val_main_v126 val_main_v123 val_main_v79 val_main_v76
  rw [second_v73]
  rfl

/-- The second layer of the reference is its first, of the images whose nodes the layer before gives. -/
theorem second_v80 : val_main_v127 (F := Ideal) x0 x1 x2 x3 x4 x5 x6 x7 x8 x9
    = val_main_v80 (F := Ideal) (images (val_main_v80 (F := Ideal) x0 x1 x2 x3 x4 x5)) x1 x6 x7 x8 x9 := by
  unfold val_main_v127 val_main_call2_v7 val_main_call2_v5 val_main_call2_v4 val_main_call2_v3 val_main_call2_v1 val_main_v80 val_main_call1_v7 val_main_call1_v5 val_main_call1_v4 val_main_call1_v3 val_main_call1_v1
  rw [second_v79]
  rfl
end

section
variable (x0 : FVec Ideal S4x128x128x128 .f32) (x1 : Table) (x2 x6 x10 : FVec Ideal S128x128 .f32)
  (x3 x4 x5 x7 x8 x9 x11 x12 x13 : FVec Ideal S128 .f32)

theorem third_v34 : val_main_v128 (F := Ideal) x0 x1 x2 x3 x4 x5 x6 x7 x8 x9 x10
    = val_main_v34 (F := Ideal) (images (val_main_v127 (F := Ideal) x0 x1 x2 x3 x4 x5 x6 x7 x8 x9)) x10 := by
  unfold val_main_v128 val_main_v34
  rw [v1_images]

theorem third_v41 : val_main_v135 (F := Ideal) x0 x1 x2 x3 x4 x5 x6 x7 x8 x9 x10
    = val_main_v41 (F := Ideal) (images (val_main_v127 (F := Ideal) x0 x1 x2 x3 x4 x5 x6 x7 x8 x9)) x1 x10 := by
  unfold val_main_v135 val_main_v41
  rw [third_v34]
  rfl

theorem third_v44 : val_main_v138 (F := Ideal) x0 x1 x2 x3 x4 x5 x6 x7 x8 x9 x10
    = val_main_v44 (F := Ideal) (images (val_main_v127 (F := Ideal) x0 x1 x2 x3 x4 x5 x6 x7 x8 x9)) x1 x10 := by
  unfold val_main_v138 val_main_v44
  rw [third_v41]
  rfl

theorem third_v52 : val_main_v146 (F := Ideal) x0 x1 x2 x3 x4 x5 x6 x7 x8 x9 x10
    = val_main_v52 (F := Ideal) (images (val_main_v127 (F := Ideal) x0 x1 x2 x3 x4 x5 x6 x7 x8 x9)) x1 x10 := by
  unfold val_main_v146 val_main_v52
  rw [third_v44]
  rfl

theorem third_v55 : val_main_v149 (F := Ideal) x0 x1 x2 x3 x4 x5 x6 x7 x8 x9 x10 x11
    = val_main_v55 (F := Ideal) (images (val_main_v127 (F := Ideal) x0 x1 x2 x3 x4 x5 x6 x7 x8 x9)) x1 x10 x11 := by
  unfold val_main_v149 val_main_v55
  rw [third_v52]
  rfl

theorem third_v56 : val_main_v150 (F := Ideal) x0 x1 x2 x3 x4 x5 x6 x7 x8 x9 x10 x11
    = val_main_v56 (F := Ideal) (images (val_main_v127 (F := Ideal) x0 x1 x2 x3 x4 x5 x6 x7 x8 x9)) x1 x10 x11 := by
  unfold val_main_v150 val_main_v56
  rw [third_v55]
  rfl

theorem third_v59 : val_main_v153 (F := Ideal) x0 x1 x2 x3 x4 x5 x6 x7 x8 x9 x10 x11
    = val_main_v59 (F := Ideal) (images (val_main_v127 (F := Ideal) x0 x1 x2 x3 x4 x5 x6 x7 x8 x9)) x1 x10 x11 := by
  unfold val_main_v153 val_main_v151 val_main_v59 val_main_v57
  rw [third_v56]
  rfl

theorem third_v61 : val_main_v155 (F := Ideal) x0 x1 x2 x3 x4 x5 x6 x7 x8 x9 x10 x11
    = val_main_v61 (F := Ideal) (images (val_main_v127 (F := Ideal) x0 x1 x2 x3 x4 x5 x6 x7 x8 x9)) x1 x10 x11 := by
  unfold val_main_v155 val_main_v154 val_main_v61 val_main_v60
  rw [third_v55, third_v59]

theorem third_v66 : val_main_v160 (F := Ideal) x0 x1 x2 x3 x4 x5 x6 x7 x8 x9 x10 x11
    = val_main_v66 (F := Ideal) (images (val_main_v127 (F := Ideal) x0 x1 x2 x3 x4 x5 x6 x7 x8 x9)) x1 x10 x11 := by
  unfold val_main_v160 val_main_v158 val_main_v157 val_main_v156 val_main_v66 val_main_v64 val_main_v63 val_main_v62
  rw [third_v61]
  rfl

theorem third_v68 : val_main_v162 (F := Ideal) x0 x1 x2 x3 x4 x5 x6 x7 x8 x9 x10 x11
    = val_main_v68 (F := Ideal) (images (val_main_v127 (F := Ideal) x0 x1 x2 x3 x4 x5 x6 x7 x8 x9)) x1 x10 x11 := by
  unfold val_main_v162 val_main_v161 val_main_v68 val_main_v67
  rw [third_v55, third_v59]

theorem third_v73 : val_main_v167 (F := Ideal) x0 x1 x2 x3 x4 x5 x6 x7 x8 x9 x10 x11
    = val_main_v73 (F := Ideal) (images (val_main_v127 (F := Ideal) x0 x1 x2 x3 x4 x5 x6 x7 x8 x9)) x1 x10 x11 := by
  unfold val_main_v167 val_main_v166 val_main_v165 val_main_v164 val_main_v73 val_main_v72 val_main_v71 val_main_v70
  rw [third_v68, third_v66]
  rfl

theorem third_v79 : val_main_v173 (F := Ideal) x0 x1 x2 x3 x4 x5 x6 x7 x8 x9 x10 x11 x12 x13
    = val_main_v79 (F := Ideal) (images (val_main_v127 (F := Ideal) x0 x1 x2 x3 x4 x5 x6 x7 x8 x9)) x1 x10 x11 x12 x13 := by
  unfold val_main_v173 val_main_v170 val_main_v79 val_main_v76
  rw [third_v73]
  rfl

/-- The third layer of the reference is its first, of the images whose nodes the layer before gives. -/
theorem third_v80 : val_main_v174 (F := Ideal) x0 x1 x2 x3 x4 x5 x6 x7 x8 x9 x10 x11 x12 x13
    = val_main_v80 (F := Ideal) (images (val_main_v127 (F := Ideal) x0 x1 x2 x3 x4 x5 x6 x7 x8 x9)) x1 x10 x11 x12 x13 := by
  unfold val_main_v174 val_main_call3_v7 val_main_call3_v5 val_main_call3_v4 val_main_call3_v3 val_main_call3_v1 val_main_v80 val_main_call1_v7 val_main_call1_v5 val_main_call1_v4 val_main_call1_v3 val_main_call1_v1
  rw [third_v79]
  rfl
end

/-! ## The result -/

/-- The network's result as an array over the batch, the channels and the pixels. -/
def network (x0 : FVec Ideal S4x128x128x128 .f32) (x2 : FVec Ideal S128x128 .f32) (x3 x4 x5 : FVec Ideal S128 .f32)
    (x6 : FVec Ideal S128x128 .f32) (x7 x8 x9 : FVec Ideal S128 .f32) (x10 : FVec Ideal S128x128 .f32)
    (x11 x12 x13 : FVec Ideal S128 .f32) : FVec Ideal S4x128x128x128 .f32 := fun k =>
  gcn (fun i j c => x0 (ix4 (k 0) c ⟨i % 128, Nat.mod_lt _ (by omega)⟩ ⟨j % 128, Nat.mod_lt _ (by omega)⟩))
    (mat x2) (vec x3) (vec x4) (vec x5) (mat x6) (vec x7) (vec x8) (vec x9) (mat x10) (vec x11) (vec x12) (vec x13)
    (k 2).val (k 3).val (k 1)

/-- The reference's result over the batched grid's edge list is the network's. -/
theorem v176_eq (x0 : FVec Ideal S4x128x128x128 .f32) (x1 : Table) (g : GridEdges (entry x1 0) (entry x1 1))
    (x2 : FVec Ideal S128x128 .f32) (x3 x4 x5 : FVec Ideal S128 .f32)
    (x6 : FVec Ideal S128x128 .f32) (x7 x8 x9 : FVec Ideal S128 .f32) (x10 : FVec Ideal S128x128 .f32)
    (x11 x12 x13 : FVec Ideal S128 .f32) :
    val_main_v176 (F := Ideal) x0 x1 x2 x3 x4 x5 x6 x7 x8 x9 x10 x11 x12 x13 = network x0 x2 x3 x4 x5 x6 x7 x8 x9 x10 x11 x12 x13 := by
  funext k
  have h0 : (k 0).val < 4 := (k 0).isLt
  have h1 : (k 1).val < 128 := (k 1).isLt
  have h2 : (k 2).val < 128 := (k 2).isLt
  have h3 : (k 3).val < 128 := (k 3).isLt
  have hk : idx_main_v175 (idx_main_v176 k)
      = ix2 ⟨((k 0).val * 16384 + (k 2).val * 128 + (k 3).val) % 65536, Nat.mod_lt _ (by omega)⟩ (k 1) := by
    refine funext fun a => Fin.ext ?_
    match a with
    | ⟨0, _⟩ =>
      show ((((k 0).val * 128 + (k 2).val) * 128 + (k 3).val) * 128 + (k 1).val) / 128
        = ((k 0).val * 16384 + (k 2).val * 128 + (k 3).val) % 65536
      omega
    | ⟨1, _⟩ =>
      show ((((k 0).val * 128 + (k 2).val) * 128 + (k 3).val) * 128 + (k 1).val) % 128 = (k 1).val
      omega
  rw [val_main_v176_apply, val_main_v175_apply, hk]
  show img (val_main_v174 (F := Ideal) x0 x1 x2 x3 x4 x5 x6 x7 x8 x9 x10 x11 x12 x13) (k 0).val (k 2).val (k 3).val (k 1) = _
  rw [third_v80]
  refine (v80_layer g _ _ _ _ _ h0 h2 h3 _).trans ?_
  rw [v1_images]
  unfold network gcn
  refine layer_congr (fun i hi j hj c => ?_) _ _ _ _ _ _ _
  rw [second_v80]
  refine (v80_layer g _ _ _ _ _ h0 hi hj c).trans ?_
  rw [v1_images]
  refine layer_congr (fun i hi j hj c => ?_) _ _ _ _ _ _ _
  refine (v80_layer g _ _ _ _ _ h0 hi hj c).trans ?_
  refine layer_congr (fun i hi j hj c => ?_) _ _ _ _ _ _ _
  unfold img
  refine (v1_at x0 _ c).trans (congrArg x0 (funext fun a => Fin.ext ?_))
  match a with
  | ⟨0, _⟩ => show ((k 0).val * 16384 + i * 128 + j) % 65536 / 16384 = (k 0).val; omega
  | ⟨1, _⟩ => rfl
  | ⟨2, _⟩ => show ((k 0).val * 16384 + i * 128 + j) % 65536 / 128 % 128 = i % 128; omega
  | ⟨3, _⟩ => show ((k 0).val * 16384 + i * 128 + j) % 65536 % 128 = j % 128; omega

end Cert.Gcn
-- ==== Proof.Gcn.Array.lean ====
module
public import proofs.«01_k».proof.Proof.Gen.KernelIdeal.Value
public import proofs.«01_k».proof.Proof.Gcn.Block
public import proofs.«01_k».proof.Proof.Gcn.Reference
public import Idealize.ShloMosaic.Lib.StableHlo.Run
public import Idealize.ShloMosaic.Lib.Tactic

/-!
The kernel's result array

Grid point `t` reads image `t`, the whole weights, and the whole bias, gain and offset rows, and writes block `t` of the
result.  The four blocks cover the result, so the array is the network of every image.
-/

@[expose] public section
set_option maxRecDepth 16384

noncomputable section
namespace Cert.Gcn
open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ)

/-! ## What the host prepares -/

/-- An argument of 128 channels laid out as one row. -/
abbrev asRow (v : FVec Ideal S128 .f32) : FVec Ideal S1x128 .f32 := broadcastInDim S1x128 ![1] bcast_S128_S1x128_1 v

/-- The row holds the argument. -/
theorem asRow_at (v : FVec Ideal S128 .f32) (k : Fin 128) : asRow v (ix2 0 k) = vec v k :=
  congrArg v (funext fun a => Fin.ext (by
    match a with
    | ⟨0, _⟩ => show (if (128 : ℕ) = 1 then 0 else k.val) = k.val; rw [if_neg (by decide)]))

/-- The first layer's bias row. -/
theorem V_main_v0 (c : Dev nD) : V m c main_v0 = asRow (m ((c : Thread nD τ).loc main_arg3)) := by
  show StableHlo.after hostOps0 _ (Proc.devRef .tc main_v0) = _
  after_results

/-- The first layer's gain row. -/
theorem V_main_v1 (c : Dev nD) : V m c main_v1 = asRow (m ((c : Thread nD τ).loc main_arg4)) := by
  show StableHlo.after hostOps0 _ (Proc.devRef .tc main_v1) = _
  after_results

/-- The first layer's offset row. -/
theorem V_main_v2 (c : Dev nD) : V m c main_v2 = asRow (m ((c : Thread nD τ).loc main_arg5)) := by
  show StableHlo.after hostOps0 _ (Proc.devRef .tc main_v2) = _
  after_results

/-- The second layer's bias row. -/
theorem V_main_v3 (c : Dev nD) : V m c main_v3 = asRow (m ((c : Thread nD τ).loc main_arg7)) := by
  show StableHlo.after hostOps0 _ (Proc.devRef .tc main_v3) = _
  after_results

/-- The second layer's gain row. -/
theorem V_main_v4 (c : Dev nD) : V m c main_v4 = asRow (m ((c : Thread nD τ).loc main_arg8)) := by
  show StableHlo.after hostOps0 _ (Proc.devRef .tc main_v4) = _
  after_results

/-- The second layer's offset row. -/
theorem V_main_v5 (c : Dev nD) : V m c main_v5 = asRow (m ((c : Thread nD τ).loc main_arg9)) := by
  show StableHlo.after hostOps0 _ (Proc.devRef .tc main_v5) = _
  after_results

/-- The third layer's bias row. -/
theorem V_main_v6 (c : Dev nD) : V m c main_v6 = asRow (m ((c : Thread nD τ).loc main_arg11)) := by
  show StableHlo.after hostOps0 _ (Proc.devRef .tc main_v6) = _
  after_results

/-- The third layer's gain row. -/
theorem V_main_v7 (c : Dev nD) : V m c main_v7 = asRow (m ((c : Thread nD τ).loc main_arg12)) := by
  show StableHlo.after hostOps0 _ (Proc.devRef .tc main_v7) = _
  after_results

/-- The third layer's offset row. -/
theorem V_main_v8 (c : Dev nD) : V m c main_v8 = asRow (m ((c : Thread nD τ).loc main_arg13)) := by
  show StableHlo.after hostOps0 _ (Proc.devRef .tc main_v8) = _
  after_results

/-! ## What a grid point reads -/

/-- Every window but the images' and the result's stays at block zero. -/
theorem index_zero (w : Fin cfg0.W) (h0 : w ≠ 0) (h13 : w ≠ 13) (t : Fin cfg0.N) (a : Fin (cfg0.win w).shape.rank) :
    (cfg0.win w).index t a = 0 :=
  (by decide +kernel : ∀ w : Fin 14, w ≠ 0 → w ≠ 13 → ∀ (t : Fin grid0.N) (a : Fin (win0 w).shape.rank),
    (win0 w).index t a = 0) w h0 h13 t a

/-- So such a window's block starts at the array's first entry. -/
theorem start_zero (w : Fin cfg0.W) (h0 : w ≠ 0) (h13 : w ≠ 13) (t : Fin cfg0.N) :
    (fun a => (cfg0.win w).index t a * (cfg0.win w).size a) = fun _ => 0 :=
  funext fun a => by rw [index_zero w h0 h13 t a, Nat.zero_mul]

/-- The images' window and the result's move along the batch. -/
theorem index_image (t : Fin grid0.N) : win0_0.index t 0 = t.val ∧ win0_0.index t 1 = 0 ∧ win0_0.index t 2 = 0 ∧
    win0_0.index t 3 = 0 ∧ win0_13.index t 0 = t.val ∧ win0_13.index t 1 = 0 ∧ win0_13.index t 2 = 0 ∧
    win0_13.index t 3 = 0 :=
  (by decide +kernel : ∀ t : Fin grid0.N, win0_0.index t 0 = t.val ∧ win0_0.index t 1 = 0 ∧ win0_0.index t 2 = 0 ∧
    win0_0.index t 3 = 0 ∧ win0_13.index t 0 = t.val ∧ win0_13.index t 1 = 0 ∧ win0_13.index t 2 = 0 ∧
    win0_13.index t 3 = 0) t

/-- The first layer's weights are read whole. -/
theorem iblk_1 (c : Dev nD) (t : Fin cfg0.N) : (iblk m c 1 t : Vec Ideal S128x128 .f32) = m ((c : Thread nD τ).loc main_arg2) :=
  (Memref.read_access_unit_zero (Elt Ideal) main_arg2 (start_zero 1 (by decide) (by decide) t)
    (fun a => by rw [congrFun (start_zero 1 (by decide) (by decide) t) a]; simp) (V m c main_arg2)).trans (V_main_arg2 m c)

/-- The second layer's weights are read whole. -/
theorem iblk_5 (c : Dev nD) (t : Fin cfg0.N) : (iblk m c 5 t : Vec Ideal S128x128 .f32) = m ((c : Thread nD τ).loc main_arg6) :=
  (Memref.read_access_unit_zero (Elt Ideal) main_arg6 (start_zero 5 (by decide) (by decide) t)
    (fun a => by rw [congrFun (start_zero 5 (by decide) (by decide) t) a]; simp) (V m c main_arg6)).trans (V_main_arg6 m c)

/-- The third layer's weights are read whole. -/
theorem iblk_9 (c : Dev nD) (t : Fin cfg0.N) : (iblk m c 9 t : Vec Ideal S128x128 .f32) = m ((c : Thread nD τ).loc main_arg10) :=
  (Memref.read_access_unit_zero (Elt Ideal) main_arg10 (start_zero 9 (by decide) (by decide) t)
    (fun a => by rw [congrFun (start_zero 9 (by decide) (by decide) t) a]; simp) (V m c main_arg10)).trans (V_main_arg10 m c)

/-- The first layer's bias is read whole. -/
theorem iblk_2 (c : Dev nD) (t : Fin cfg0.N) : (iblk m c 2 t : Vec Ideal S1x128 .f32) = asRow (m ((c : Thread nD τ).loc main_arg3)) :=
  (Memref.read_access_unit_zero (Elt Ideal) main_v0 (start_zero 2 (by decide) (by decide) t)
    (fun a => by rw [congrFun (start_zero 2 (by decide) (by decide) t) a]; simp) (V m c main_v0)).trans (V_main_v0 m c)

/-- The first layer's gain is read whole. -/
theorem iblk_3 (c : Dev nD) (t : Fin cfg0.N) : (iblk m c 3 t : Vec Ideal S1x128 .f32) = asRow (m ((c : Thread nD τ).loc main_arg4)) :=
  (Memref.read_access_unit_zero (Elt Ideal) main_v1 (start_zero 3 (by decide) (by decide) t)
    (fun a => by rw [congrFun (start_zero 3 (by decide) (by decide) t) a]; simp) (V m c main_v1)).trans (V_main_v1 m c)

/-- The first layer's offset is read whole. -/
theorem iblk_4 (c : Dev nD) (t : Fin cfg0.N) : (iblk m c 4 t : Vec Ideal S1x128 .f32) = asRow (m ((c : Thread nD τ).loc main_arg5)) :=
  (Memref.read_access_unit_zero (Elt Ideal) main_v2 (start_zero 4 (by decide) (by decide) t)
    (fun a => by rw [congrFun (start_zero 4 (by decide) (by decide) t) a]; simp) (V m c main_v2)).trans (V_main_v2 m c)

/-- The second layer's bias is read whole. -/
theorem iblk_6 (c : Dev nD) (t : Fin cfg0.N) : (iblk m c 6 t : Vec Ideal S1x128 .f32) = asRow (m ((c : Thread nD τ).loc main_arg7)) :=
  (Memref.read_access_unit_zero (Elt Ideal) main_v3 (start_zero 6 (by decide) (by decide) t)
    (fun a => by rw [congrFun (start_zero 6 (by decide) (by decide) t) a]; simp) (V m c main_v3)).trans (V_main_v3 m c)

/-- The second layer's gain is read whole. -/
theorem iblk_7 (c : Dev nD) (t : Fin cfg0.N) : (iblk m c 7 t : Vec Ideal S1x128 .f32) = asRow (m ((c : Thread nD τ).loc main_arg8)) :=
  (Memref.read_access_unit_zero (Elt Ideal) main_v4 (start_zero 7 (by decide) (by decide) t)
    (fun a => by rw [congrFun (start_zero 7 (by decide) (by decide) t) a]; simp) (V m c main_v4)).trans (V_main_v4 m c)

/-- The second layer's offset is read whole. -/
theorem iblk_8 (c : Dev nD) (t : Fin cfg0.N) : (iblk m c 8 t : Vec Ideal S1x128 .f32) = asRow (m ((c : Thread nD τ).loc main_arg9)) :=
  (Memref.read_access_unit_zero (Elt Ideal) main_v5 (start_zero 8 (by decide) (by decide) t)
    (fun a => by rw [congrFun (start_zero 8 (by decide) (by decide) t) a]; simp) (V m c main_v5)).trans (V_main_v5 m c)

/-- The third layer's bias is read whole. -/
theorem iblk_10 (c : Dev nD) (t : Fin cfg0.N) : (iblk m c 10 t : Vec Ideal S1x128 .f32) = asRow (m ((c : Thread nD τ).loc main_arg11)) :=
  (Memref.read_access_unit_zero (Elt Ideal) main_v6 (start_zero 10 (by decide) (by decide) t)
    (fun a => by rw [congrFun (start_zero 10 (by decide) (by decide) t) a]; simp) (V m c main_v6)).trans (V_main_v6 m c)

/-- The third layer's gain is read whole. -/
theorem iblk_11 (c : Dev nD) (t : Fin cfg0.N) : (iblk m c 11 t : Vec Ideal S1x128 .f32) = asRow (m ((c : Thread nD τ).loc main_arg12)) :=
  (Memref.read_access_unit_zero (Elt Ideal) main_v7 (start_zero 11 (by decide) (by decide) t)
    (fun a => by rw [congrFun (start_zero 11 (by decide) (by decide) t) a]; simp) (V m c main_v7)).trans (V_main_v7 m c)

/-- The third layer's offset is read whole. -/
theorem iblk_12 (c : Dev nD) (t : Fin cfg0.N) : (iblk m c 12 t : Vec Ideal S1x128 .f32) = asRow (m ((c : Thread nD τ).loc main_arg13)) :=
  (Memref.read_access_unit_zero (Elt Ideal) main_v8 (start_zero 12 (by decide) (by decide) t)
    (fun a => by rw [congrFun (start_zero 12 (by decide) (by decide) t) a]; simp) (V m c main_v8)).trans (V_main_v8 m c)

/-- Grid point `t` reads image `t`. -/
theorem iblk_0_at (c : Dev nD) (t : Fin cfg0.N) (b : Fin 4) (hb : b.val = t.val) (k i j : Fin 128) :
    (iblk m c 0 t : Vec Ideal S1x128x128x128 .f32) (ix4 0 k i j) = m ((c : Thread nD τ).loc main_arg0) (ix4 b k i j) := by
  have hi := index_image t
  unfold iblk
  rw [View.read_apply]
  refine (congrFun (V_main_arg0 m c) _).trans (congrArg (m ((c : Thread nD τ).loc main_arg0)) (funext fun a => Fin.ext ?_))
  match a with
  | ⟨0, _⟩ => show win0_0.index t 0 * 1 + 1 * 0 = b.val; rw [hi.1]; omega
  | ⟨1, _⟩ => show win0_0.index t 1 * 128 + 1 * k.val = k.val; rw [hi.2.1]; omega
  | ⟨2, _⟩ => show win0_0.index t 2 * 128 + 1 * i.val = i.val; rw [hi.2.2.1]; omega
  | ⟨3, _⟩ => show win0_0.index t 3 * 128 + 1 * j.val = j.val; rw [hi.2.2.2.1]; omega

/-! ## The result -/

/-- The network of the kernel's arguments. -/
abbrev result (c : Dev nD) : Buf (Elt Ideal) ((c : Thread nD τ).loc main_v9) :=
  network (m ((c : Thread nD τ).loc main_arg0))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- The block a grid point leaves, entry by entry, is the network's result for its image. -/
theorem outs_at (c : Dev nD) (t : Fin cfg0.N) (y : S1x128x128x128.Idx) (k : S4x128x128x128.Idx)
    (h0 : (k 0).val = t.val) (h1 : (k 1).val = (y 1).val) (h2 : (k 2).val = (y 2).val) (h3 : (k 3).val = (y 3).val) :
    outsAt0 m c t y = result m c k := by
  have hy : y = ix4 (n0 := 1) (n1 := 128) (n2 := 128) (n3 := 128) 0 (y 1) (y 2) (y 3) := funext fun a => Fin.ext (by
    match a with
    | ⟨0, _⟩ => have h : (y 0).val < 1 := (y 0).isLt; show (y 0).val = 0; omega
    | ⟨1, _⟩ => rfl
    | ⟨2, _⟩ => rfl
    | ⟨3, _⟩ => rfl)
  unfold outsAt0
  rw [hy, block_run]
  refine (steps_at _ _ _ _ _ _ _ _ _ _ _ _ _ _ _ _).trans ?_
  rw [iblk_1, iblk_2, iblk_3, iblk_4, iblk_5, iblk_6, iblk_7, iblk_8, iblk_9, iblk_10, iblk_11, iblk_12]
  simp only [asRow_at]
  have e1 : y 1 = k 1 := Fin.ext h1.symm
  unfold result network
  rw [h2, h3, ← e1]
  exact gcn_congr (fun i hi j hj c' => iblk_0_at m c t (k 0) h0 c' _ _) _ _ _ _ _ _ _ _ _ _ _ _ _ _ _

/-- What grid point `t` writes back is block `t` of the network's result. -/
theorem flushed_eq (c : Dev nD) (t : Fin cfg0.N) :
    (dats m 0 c).flushed 13 t = ((cfg0.win 13).blk t).view.read (Elt Ideal) (result m c) := by
  have hi := index_image t
  rw [Cert.KernelIdeal.Value.flushed13]
  funext y
  rw [View.read_apply]
  refine outs_at m c t _ _ ?_ ?_ ?_ ?_
  · show win0_13.index t 0 * 1 + 1 * (y 0).val = t.val
    have h : (y 0).val < 1 := (y 0).isLt
    rw [hi.2.2.2.2.1]; omega
  · show win0_13.index t 1 * 128 + 1 * (y 1).val = (y 1).val
    rw [hi.2.2.2.2.2.1]; omega
  · show win0_13.index t 2 * 128 + 1 * (y 2).val = (y 2).val
    rw [hi.2.2.2.2.2.2.1]; omega
  · show win0_13.index t 3 * 128 + 1 * (y 3).val = (y 3).val
    rw [hi.2.2.2.2.2.2.2]; omega

/-- The four blocks cover the result, so the result array is the network's. -/
theorem array_eq (c : Dev nD) : (dats m 0 c).arrAt 13 cfg0.N = result m c :=
  (dats m 0 c).arrAt_eq_of_cover 13 (result m c) (fun t _ => flushed_eq m c t) fun i => by
    have h0 : (i 0 : ℕ) < 4 := (i 0).isLt
    have h1 : (i 1 : ℕ) < 128 := (i 1).isLt
    have h2 : (i 2 : ℕ) < 128 := (i 2).isLt
    have h3 : (i 3 : ℕ) < 128 := (i 3).isLt
    have hN : grid0.N = 4 := N_0
    let t : Fin grid0.N := ⟨(i 0).val, by omega⟩
    have hi := index_image t
    refine ⟨t, flush0_13 t, ?_⟩
    show i ∈ ((View.whole main_v9).slice (win0_13.rect t)).set
    rw [View.set_slice_whole, Rect.mem_set_unit]
    intro a
    match a with
    | ⟨0, _⟩ =>
      show win0_13.index t 0 * 1 ≤ (i 0 : ℕ) ∧ (i 0 : ℕ) < win0_13.index t 0 * 1 + 1
      rw [hi.2.2.2.2.1]; show (i 0).val * 1 ≤ (i 0 : ℕ) ∧ (i 0 : ℕ) < (i 0).val * 1 + 1; omega
    | ⟨1, _⟩ =>
      show win0_13.index t 1 * 128 ≤ (i 1 : ℕ) ∧ (i 1 : ℕ) < win0_13.index t 1 * 128 + 128
      rw [hi.2.2.2.2.2.1]; omega
    | ⟨2, _⟩ =>
      show win0_13.index t 2 * 128 ≤ (i 2 : ℕ) ∧ (i 2 : ℕ) < win0_13.index t 2 * 128 + 128
      rw [hi.2.2.2.2.2.2.1]; omega
    | ⟨3, _⟩ =>
      show win0_13.index t 3 * 128 ≤ (i 3 : ℕ) ∧ (i 3 : ℕ) < win0_13.index t 3 * 128 + 128
      rw [hi.2.2.2.2.2.2.2]; omega

end Cert.Gcn
-- ==== Proof.lean ====
/-
  The certificate: the three programs' frames, the idealized kernel's standing to the printed one, and the equality of
  the kernel's result with the reference's over the batched grid's edge list. The mathematics lies in Proof/Gcn.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_grid_edges
public import proofs.«01_k».proof.Proof.Gcn.Array
public import proofs.«01_k».proof.Proof.Gcn.Pre
public import Idealize.ShloMosaic.Lib.Quiescent
public import Idealize.ShloMosaic.Lib.Claim

@[expose] public section

noncomputable section

namespace Cert.Proof

open Idealize.ShloMosaic Idealize.SL.Sem Cert.Gcn

/-- The kernel as printed terminates, leaves its arguments as they were and every counter at zero. -/
theorem kernel_frame : Cert.quiescent_Kernel := fun m ρ _ => Cert.Kernel.Gen.frame m ρ

/-- So does the kernel over the extended reals, -/
theorem ideal_frame : Cert.quiescent_KernelIdeal := fun m ρ _ => Cert.KernelIdeal.Gen.frame m ρ

/-- and under the precondition too. -/
theorem ideal_frame_pre : Cert.quiescent_KernelIdeal_pre_grid_edges := fun m ρ _ => Cert.KernelIdeal.Gen.frame m ρ

/-- The reference over the extended reals terminates, leaves its arguments as they were, and has no counter. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem reference_frame_pre : Cert.quiescent_ReferenceIdeal_pre_grid_edges := fun m ρ _ => reference_frame m ρ trivial

/-- No operation is replaced between the printed kernel and the idealized one. -/
theorem preserves : Cert.preserves_Kernel_KernelIdeal := trivial

/-- Over the batched grid's edge list both programs end with the network of the arguments as their result. -/
theorem algebraic : Cert.algebraic_KernelIdeal_ReferenceIdeal_pre_grid_edges := by
  intro m ρ m' ρ' hpre hagree
  refine ⟨fun c => result m c, ?_, ?_⟩
  · exact (θ_run Cert.KernelIdeal.defs _ _).mono (fun r h c => ⟨(h c).1.trans (array_eq m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v176_eq (F := Ideal) (StableHlo.launchContents m' c)).trans ?_
    obtain ⟨h0, h1, h2, h3, h4, h5, h6, h7, h8, h9, h10, h11, h12, h13⟩ := hagree c
    have e := fun (b : Ref Cert.ReferenceIdeal.sig .tc) => StableHlo.launchContents_devRef m' c b
    rw [(e Cert.ReferenceIdeal.main_arg0).trans h0, (e Cert.ReferenceIdeal.main_arg1).trans h1, (e Cert.ReferenceIdeal.main_arg2).trans h2, (e Cert.ReferenceIdeal.main_arg3).trans h3,
      (e Cert.ReferenceIdeal.main_arg4).trans h4, (e Cert.ReferenceIdeal.main_arg5).trans h5, (e Cert.ReferenceIdeal.main_arg6).trans h6,
      (e Cert.ReferenceIdeal.main_arg7).trans h7, (e Cert.ReferenceIdeal.main_arg8).trans h8, (e Cert.ReferenceIdeal.main_arg9).trans h9,
      (e Cert.ReferenceIdeal.main_arg10).trans h10, (e Cert.ReferenceIdeal.main_arg11).trans h11, (e Cert.ReferenceIdeal.main_arg12).trans h12, (e Cert.ReferenceIdeal.main_arg13).trans h13]
    exact v176_eq _ _ (gridEdges_of_pre m hpre c) _ _ _ _ _ _ _ _ _ _ _ _

/-- Every claim of the certificate. -/
theorem claim : Cert.Claim :=
  ⟨Cert.Kernel.Gen.facts, Cert.KernelIdeal.Gen.facts, Cert.ReferenceIdeal.Gen.facts, Cert.Pre_grid_edges.Gen.facts,
    kernel_frame, ideal_frame, ideal_frame_pre, reference_frame, reference_frame_pre, preserves, algebraic⟩

end Cert.Proof

end
